-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_normal [hPre_rows_normal : Cert.Pre_rows_normal.Facts] (m : (ℓ : Loc Cert.KernelIdeal.nD Cert.KernelIdeal.τ Cert.KernelIdeal.sig) → Buf (Elt Ideal) ℓ) : Prop :=
  ∀ c : Dev Cert.KernelIdeal.nD,
    (Cert.Pre_rows_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_normal [hPre_rows_normal : Cert.Pre_rows_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_rows_normal [hKernelIdeal : Cert.KernelIdeal.Facts] [hPre_rows_normal : Cert.Pre_rows_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_rows_normal [hReferenceIdeal : Cert.ReferenceIdeal.Facts] [hPre_rows_normal : Cert.Pre_rows_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_rows_normal [hKernelIdeal : Cert.KernelIdeal.Facts] [hReferenceIdeal : Cert.ReferenceIdeal.Facts] [hPre_rows_normal : Cert.Pre_rows_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_rows_normal : Cert.Pre_rows_normal.Facts),
    quiescent_Kernel (hKernel := hKernel)
    ∧ quiescent_KernelIdeal (hKernelIdeal := hKernelIdeal)
    ∧ quiescent_KernelIdeal_pre_rows_normal (hKernelIdeal := hKernelIdeal) (hPre_rows_normal := hPre_rows_normal)
    ∧ quiescent_ReferenceIdeal (hReferenceIdeal := hReferenceIdeal)
    ∧ quiescent_ReferenceIdeal_pre_rows_normal (hReferenceIdeal := hReferenceIdeal) (hPre_rows_normal := hPre_rows_normal)
    ∧ preserves_Kernel_KernelIdeal
    ∧ algebraic_KernelIdeal_ReferenceIdeal_pre_rows_normal (hKernelIdeal := hKernelIdeal) (hReferenceIdeal := hReferenceIdeal) (hPre_rows_normal := hPre_rows_normal)
-- ==== Pre_rows_normal.lean ====
abbrev S2x128x1536 : Shape := ⟨3, ![2, 128, 1536]⟩
abbrev S152064x1536 : Shape := ⟨2, ![152064, 1536]⟩
abbrev S152064 : Shape := ⟨1, ![152064]⟩
abbrev S152064x768 : Shape := ⟨2, ![152064, 768]⟩
abbrev S152064x12 : Shape := ⟨2, ![152064, 12]⟩
abbrev S2x128 : Shape := ⟨2, ![2, 128]⟩
abbrev S_ : Shape := ⟨0, ![]⟩

class Facts : Prop where
  bitsLt_bf16_f32 : FTy.bits .bf16 < FTy.bits .f32
  reducesTo_S2x128x1536_S2x128_d2 : S2x128x1536.ReducesTo [2] S2x128
  h_S_ : 0 < S_.numel
  bcast_S_S2x128 : S_.BroadcastsInDim S2x128 (![] : Fin 0 → Fin S2x128.rank)

variable [Facts]

def fn {F : FTy → Type} [FloatOps F] (main_arg0 : FVec F S2x128x1536 .bf16) (main_arg1 : FVec F S2x128x1536 .bf16) (main_arg2 : FVec F S152064x1536 .fp8e4m3) (main_arg3 : FVec F S152064 .f32) (main_arg4 : IVec S152064x768 8) (main_arg5 : FVec F S152064x12 .f32) (main_arg6 : IVec S152064x12 8) (main_arg7 : IVec S2x128 32) : IVec S2x128 1 :=
  let main_v0 : FVec F S2x128x1536 .f32 := (extf .f32 · bitsLt_bf16_f32) main_arg0
  let main_v1 : FVec F S2x128x1536 .f32 := Host.absf main_v0
  let main_cst : FVec F S_ .f32 := constant S_ .f32 0xFF800000#32
  let main_v2 : FVec F S2x128 .f32 := (fun x v => Host.reduce FloatOps.maximumf x v reducesTo_S2x128x1536_S2x128_d2 h_S_) main_v1 main_cst
  let main_cst_0 : FVec F S_ .f32 := constant S_ .f32 0x00000000#32
  let main_v3 : FVec F S2x128 .f32 := broadcastInDim S2x128 ![] bcast_S_S2x128 main_cst_0
  let main_v4 : IVec S2x128 1 := cmpf .oeq main_v2 main_v3
  let main_cst_1 : FVec F S_ .f32 := constant S_ .f32 0x3B124925#32
  let main_v5 : FVec F S2x128 .f32 := broadcastInDim S2x128 ![] bcast_S_S2x128 main_cst_1
  let main_v6 : FVec F S2x128 .f32 := mulf main_v2 main_v5
  let main_cst_2 : FVec F S_ .f32 := constant S_ .f32 0x00800000#32
  let main_v7 : FVec F S2x128 .f32 := broadcastInDim S2x128 ![] bcast_S_S2x128 main_cst_2
  let main_v8 : IVec S2x128 1 := cmpf .oge main_v6 main_v7
  let main_cst_3 : FVec F S_ .f32 := constant S_ .f32 0x7F7F0000#32
  let main_v9 : FVec F S2x128 .f32 := broadcastInDim S2x128 ![] bcast_S_S2x128 main_cst_3
  let main_v10 : IVec S2x128 1 := cmpf .ole main_v2 main_v9
  let main_v11 : IVec S2x128 1 := andi main_v8 main_v10
  let main_v12 : IVec S2x128 1 := ori main_v4 main_v11
  main_v12
-- ==== Kernel.lean ====
abbrev S2x128x1536 : Shape := ⟨3, ![2, 128, 1536]⟩
abbrev S152064x1536 : Shape := ⟨2, ![152064, 1536]⟩
abbrev S152064 : Shape := ⟨1, ![152064]⟩
abbrev S152064x768 : Shape := ⟨2, ![152064, 768]⟩
abbrev S152064x12 : Shape := ⟨2, ![152064, 12]⟩
abbrev S2x128 : Shape := ⟨2, ![2, 128]⟩
abbrev S256x1536 : Shape := ⟨2, ![256, 1536]⟩
abbrev S1x152064 : Shape := ⟨2, ![1, 152064]⟩
abbrev S12x152064 : Shape := ⟨2, ![12, 152064]⟩
abbrev S1536x1536 : Shape := ⟨2, ![1536, 1536]⟩
abbrev S1x1536 : Shape := ⟨2, ![1, 1536]⟩
abbrev S1536x768 : Shape := ⟨2, ![1536, 768]⟩
abbrev S12x1536 : Shape := ⟨2, ![12, 1536]⟩
abbrev S256x128 : Shape := ⟨2, ![256, 128]⟩
abbrev S1x128x1536 : Shape := ⟨3, ![1, 128, 1536]⟩
abbrev S128x1536 : Shape := ⟨2, ![128, 1536]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S512x768 : Shape := ⟨2, ![512, 768]⟩
abbrev S768x512 : Shape := ⟨2, ![768, 512]⟩
abbrev S768x1x512 : Shape := ⟨3, ![768, 1, 512]⟩
abbrev S768x2x512 : Shape := ⟨3, ![768, 2, 512]⟩
abbrev S1536x512 : Shape := ⟨2, ![1536, 512]⟩
abbrev S128x512 : Shape := ⟨2, ![128, 512]⟩
abbrev S1x512 : Shape := ⟨2, ![1, 512]⟩
abbrev S16x512 : Shape := ⟨2, ![16, 512]⟩
abbrev S256x512 : Shape := ⟨2, ![256, 512]⟩
abbrev S512x1536 : Shape := ⟨2, ![512, 1536]⟩
abbrev S256 : Shape := ⟨1, ![256]⟩
abbrev S256x1 : Shape := ⟨2, ![256, 1]⟩

abbrev nBuf : Space → Nat
  | .hbm => 17
  | .vmem => 30
  | .smem => 0
  | _ => 0

abbrev bufTy : (tb : Table) → Fin (tcTables nBuf tb) → BufTy
  | .hbm, ⟨0, _⟩ => ⟨S2x128x1536, .bf16⟩
  | .hbm, ⟨1, _⟩ => ⟨S2x128x1536, .bf16⟩
  | .hbm, ⟨2, _⟩ => ⟨S152064x1536, .fp8e4m3⟩
  | .hbm, ⟨3, _⟩ => ⟨S152064, .f32⟩
  | .hbm, ⟨4, _⟩ => ⟨S152064x768, .i8⟩
  | .hbm, ⟨5, _⟩ => ⟨S152064x12, .f32⟩
  | .hbm, ⟨6, _⟩ => ⟨S152064x12, .i8⟩
  | .hbm, ⟨7, _⟩ => ⟨S2x128, .i32⟩
  | .hbm, ⟨8, _⟩ => ⟨S256x1536, .bf16⟩
  | .hbm, ⟨9, _⟩ => ⟨S1x152064, .f32⟩
  | .hbm, ⟨10, _⟩ => ⟨S12x152064, .f32⟩
  | .hbm, ⟨11, _⟩ => ⟨S12x152064, .i8⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S2x128x1536, .fp8e4m3⟩
  | .hbm, ⟨16, _⟩ => ⟨S2x128, .f32⟩
  | .local _ .vmem, ⟨0, _⟩ => ⟨S2x128x1536, .bf16⟩
  | .local _ .vmem, ⟨1, _⟩ => ⟨S256x1536, .bf16⟩
  | .local _ .vmem, ⟨2, _⟩ => ⟨S1536x1536, .fp8e4m3⟩
  | .local _ .vmem, ⟨3, _⟩ => ⟨S1536x1536, .fp8e4m3⟩
  | .local _ .vmem, ⟨4, _⟩ => ⟨S1x1536, .f32⟩
  | .local _ .vmem, ⟨5, _⟩ => ⟨S1x1536, .f32⟩
  | .local _ .vmem, ⟨6, _⟩ => ⟨S1536x768, .i8⟩
  | .local _ .vmem, ⟨7, _⟩ => ⟨S1536x768, .i8⟩
  | .local _ .vmem, ⟨8, _⟩ => ⟨S12x1536, .f32⟩
  | .local _ .vmem, ⟨9, _⟩ => ⟨S12x1536, .f32⟩
  | .local _ .vmem, ⟨10, _⟩ => ⟨S12x1536, .i8⟩
  | .local _ .vmem, ⟨11, _⟩ => ⟨S12x1536, .i8⟩
  | .local _ .vmem, ⟨12, _⟩ => ⟨S2x128, .i32⟩
  | .local _ .vmem, ⟨13, _⟩ => ⟨S2x128, .f32⟩
  | .local _ .vmem, ⟨14, _⟩ => ⟨S2x128, .f32⟩
  | .local _ .vmem, ⟨15, _⟩ => ⟨S2x128, .f32⟩
  | .local _ .vmem, ⟨16, _⟩ => ⟨S2x128x1536, .fp8e4m3⟩
  | .local _ .vmem, ⟨17, _⟩ => ⟨S2x128, .f32⟩
  | .local _ .vmem, ⟨18, _⟩ => ⟨S256x1536, .fp8e4m3⟩
  | .local _ .vmem, ⟨19, _⟩ => ⟨S256x128, .f32⟩
  | .local _ .vmem, ⟨20, _⟩ => ⟨S12x1536, .bf16⟩
  | .local _ .vmem, ⟨21, _⟩ => ⟨S12x1536, .bf16⟩
  | .local _ .vmem, ⟨22, _⟩ => ⟨S256x128, .i32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | _, _ => ⟨S2x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![99], ![false]⟩

def k0_cond2 (i : grid0.Coords) : BitVec 1 :=
  let arg0 : BitVec 32 := BitVec.ofNat 32 (i 0).val
  let c98_i32 : BitVec 32 := 98#32
  let v1635 : BitVec 1 := Scalar.cmpi .eq arg0 c98_i32
  let v1636 : BitVec 32 := Scalar.extui v1635
  let c0_i32_290 : BitVec 32 := 0#32
  let v1637 : BitVec 1 := Scalar.cmpi .ne v1636 c0_i32_290
  v1637

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x128x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x768 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S12x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S12x1536 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128x1536 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S2x128x1536 : Shape := ⟨3, ![2, 128, 1536]⟩
abbrev S152064x1536 : Shape := ⟨2, ![152064, 1536]⟩
abbrev S152064 : Shape := ⟨1, ![152064]⟩
abbrev S152064x768 : Shape := ⟨2, ![152064, 768]⟩
abbrev S152064x12 : Shape := ⟨2, ![152064, 12]⟩
abbrev S2x128 : Shape := ⟨2, ![2, 128]⟩
abbrev S256x1536 : Shape := ⟨2, ![256, 1536]⟩
abbrev S256x768 : Shape := ⟨2, ![256, 768]⟩
abbrev S2x128x1 : Shape := ⟨3, ![2, 128, 1]⟩
abbrev S256x152064 : Shape := ⟨2, ![256, 152064]⟩
abbrev S256 : Shape := ⟨1, ![256]⟩
abbrev S256x1 : Shape := ⟨2, ![256, 1]⟩
abbrev S1x152064 : Shape := ⟨2, ![1, 152064]⟩
abbrev S152064x12x1 : Shape := ⟨3, ![152064, 12, 1]⟩
abbrev S152064x12x64 : Shape := ⟨3, ![152064, 12, 64]⟩

abbrev nBuf : Space → Nat
  | .hbm => 16
  | .vmem => 14
  | .smem => 0
  | _ => 0

abbrev bufTy : (tb : Table) → Fin (tcTables nBuf tb) → BufTy
  | .hbm, ⟨0, _⟩ => ⟨S2x128x1536, .bf16⟩
  | .hbm, ⟨1, _⟩ => ⟨S2x128x1536, .bf16⟩
  | .hbm, ⟨2, _⟩ => ⟨S152064x1536, .fp8e4m3⟩
  | .hbm, ⟨3, _⟩ => ⟨S152064, .f32⟩
  | .hbm, ⟨4, _⟩ => ⟨S152064x768, .i8⟩
  | .hbm, ⟨5, _⟩ => ⟨S152064x12, .f32⟩
  | .hbm, ⟨6, _⟩ => ⟨S152064x12, .i8⟩
  | .hbm, ⟨7, _⟩ => ⟨S2x128, .i32⟩
  | .hbm, ⟨8, _⟩ => ⟨S256x1536, .bf16⟩
  | .hbm, ⟨9, _⟩ => ⟨S256x768, .bf16⟩
  | .hbm, ⟨10, _⟩ => ⟨S256x768, .bf16⟩
  | .hbm, ⟨11, _⟩ => ⟨S2x128, .f32⟩
  | .hbm, ⟨12, _⟩ => ⟨S2x128, .f32⟩
  | .hbm, ⟨13, _⟩ => ⟨S2x128, .f32⟩
  | .hbm, ⟨14, _⟩ => ⟨S2x128x1536, .fp8e4m3⟩
  | .hbm, ⟨15, _⟩ => ⟨S2x128, .f32⟩
  | .local _ .vmem, ⟨0, _⟩ => ⟨S2x128x1536, .bf16⟩
  | .local _ .vmem, ⟨1, _⟩ => ⟨S256x768, .bf16⟩
  | .local _ .vmem, ⟨2, _⟩ => ⟨S256x768, .bf16⟩
  | .local _ .vmem, ⟨3, _⟩ => ⟨S152064x1536, .fp8e4m3⟩
  | .local _ .vmem, ⟨4, _⟩ => ⟨S152064, .f32⟩
  | .local _ .vmem, ⟨5, _⟩ => ⟨S152064x768, .i8⟩
  | .local _ .vmem, ⟨6, _⟩ => ⟨S152064x12, .f32⟩
  | .local _ .vmem, ⟨7, _⟩ => ⟨S152064x12, .i8⟩
  | .local _ .vmem, ⟨8, _⟩ => ⟨S2x128, .i32⟩
  | .local _ .vmem, ⟨9, _⟩ => ⟨S2x128, .f32⟩
  | .local _ .vmem, ⟨10, _⟩ => ⟨S2x128, .f32⟩
  | .local _ .vmem, ⟨11, _⟩ => ⟨S2x128, .f32⟩
  | .local _ .vmem, ⟨12, _⟩ => ⟨S2x128x1536, .fp8e4m3⟩
  | .local _ .vmem, ⟨13, _⟩ => ⟨S2x128, .f32⟩
  | _, _ => ⟨S2x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F] [Named F]

def κ : String → Option EReal := fun
  | "log2e" => some (((Real.log 2)⁻¹ : ℝ) : EReal)
  | _ => none

abbrev grid0 : Pipeline.Grid := .none

abbrev stage0_0 : Fin 1 → Memref sig .tc .vmem S2x128x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S152064x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S152064 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S152064x768 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S152064x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S152064x12 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128x1536 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KDefs.lean ====
module
public import proofs.«01_k».proof.Proof.Gen.KernelIdeal.Skeleton
public import Idealize.ShloMosaic.Lib.Pipeline.Value
set_option maxRecDepth 16384
@[expose] public section
noncomputable section
namespace Cert.Proof.K
open Idealize.ShloMosaic Idealize.ShloMosaic.TcCoe
open Cert.KernelIdeal Cert.KernelIdeal.Gen
variable {F : FTy → Type} [FloatOps F] [Named F]

/-! What one grid step of the kernel computes, as a function of its blocks and of the seven running vectors.
The step works on three sub-blocks of 512 vocabulary rows, each of four tiles of 128. -/

/-- An array of one number per row and lane. -/
abbrev Lanes (F : FTy → Type) [FloatOps F] [Named F] := Vec F S256x128 .f32

theorem inb_wp (c : Fin 3) : ∀ a, (![512 * c.val, 0] : Fin 2 → ℕ) a + S512x1536.size a ≤ S1536x1536.size a := by
  revert c; decide

theorem inb_ws (c : Fin 3) : ∀ a, (![0, 512 * c.val] : Fin 2 → ℕ) a + S1x512.size a ≤ S1x1536.size a := by
  revert c; decide

theorem inb_wr (c : Fin 3) : ∀ a, (![512 * c.val, 0] : Fin 2 → ℕ) a + S512x768.size a ≤ S1536x768.size a := by
  revert c; decide

theorem inb_sz (c : Fin 3) (g : Fin 12) : ∀ a, (![g.val, 512 * c.val] : Fin 2 → ℕ) a + S1x512.size a ≤ S12x1536.size a := by
  revert c g; decide

theorem slices_grp (g : Fin 12) : S1536x512.Slices ![128 * g.val, 0] S128x512 := by
  revert g; decide

theorem slices_piece (q : Fin 8) : S128x512.Slices ![16 * q.val, 0] S16x512 := by
  revert q; decide

theorem slices_tile (u : Fin 4) : S256x512.Slices ![0, 128 * u.val] S256x128 := by
  revert u; decide

theorem slices_scale (u : Fin 4) : S1x512.Slices ![0, 128 * u.val] S1x128 := by
  revert u; decide

/-- Group `g`'s row of a group table, at sub-block `c`. -/
def szRow (c : Fin 3) (t : Vec F S12x1536 .bf16) (g : Fin 12) : FVec F S1x512 .bf16 :=
  View.ld (Val := Elt F) t (Rect.unit ![g.val, 512 * c.val] S1x512.size (inb_sz c g))

/-- Sixteen rows of the dequantised matrix, transposed. -/
def piece (u4 : IVec S1536x512 32) (zr sr : Fin 12 → FVec F S1x512 .bf16) (n : Fin 96) : FVec F S16x512 .bf16 :=
  mulf (subf (extractStridedSlice S16x512 ![16 * (n.val % 8), 0]
      (sitofp .bf16 (extractStridedSlice S128x512 ![128 * (n.val / 8), 0] u4 (slices_grp ⟨n.val / 8, by omega⟩)) : FVec F S128x512 .bf16)
      (slices_piece ⟨n.val % 8, by omega⟩))
    (broadcastTo S16x512 (shapeCast S1x512 (zr ⟨n.val / 8, by omega⟩) shapeCasts_S1x512_S1x512) broadcasts_S1x512_S16x512))
    (broadcastTo S16x512 (shapeCast S1x512 (sr ⟨n.val / 8, by omega⟩) shapeCasts_S1x512_S1x512) broadcasts_S1x512_S16x512)

theorem concat96 (p : Fin 96 → FVec F S16x512 .bf16) : Shape.Concatenates ((List.ofFn fun n : Fin 96 =>
    (⟨S16x512, p n⟩ : (s : Shape) × (s.Idx → F .bf16))).map (·.1)) S1536x512 0 := by
  have : (List.ofFn fun n : Fin 96 => (⟨S16x512, p n⟩ : (s : Shape) × (s.Idx → F .bf16))).map (·.1) = List.replicate 96 S16x512 := by
    simp [List.map_ofFn, Function.comp_def, List.ofFn_const]
  rw [this]; decide

/-- The second model's products at sub-block `c`. -/
def accq (c : Fin 3) (xr : FVec F S256x1536 .bf16) (wr : Vec F S1536x768 .i8) (s2 z2 : FVec F S12x1536 .bf16) : FVec F S256x512 .f32 :=
  matmul dot_S256x1536_S1536x512_S256x512_1_0_0_1_n_n none xr
    (concatenate S1536x512 0 (List.ofFn fun n : Fin 96 => ⟨S16x512, piece
      (k0_pay59 (View.ld (Val := Elt F) wr (Rect.unit ![512 * c.val, 0] S512x768.size (inb_wr c)))) (szRow c z2) (szRow c s2) n⟩) (concat96 _))
    (constant S256x512 .f32 0x00000000#32)

/-- The first model's products at sub-block `c`. -/
def accp (c : Fin 3) (xc : Vec F S256x1536 .fp8e4m3) (wp : Vec F S1536x1536 .fp8e4m3) : FVec F S256x512 .f32 :=
  matmul dot_S256x1536_S512x1536_S256x512_1_1_0_0_n_n none xc
    (View.ld (Val := Elt F) wp (Rect.unit ![512 * c.val, 0] S512x1536.size (inb_wp c))) (constant S256x512 .f32 0x00000000#32)

/-- Tile `u` of the first model's logits, in base-2 units. -/
def zpT (c : Fin 3) (xc : Vec F S256x1536 .fp8e4m3) (wp : Vec F S1536x1536 .fp8e4m3) (ws : Vec F S1x1536 .f32) (coef : Lanes F) (u : Fin 4) : Lanes F :=
  mulf (mulf (extractStridedSlice S256x128 ![0, 128 * u.val] (accp c xc wp) (slices_tile u) : FVec F S256x128 .f32)
    (broadcastTo S256x128 (extractStridedSlice S1x128 ![0, 128 * u.val]
      (shapeCast S1x512 (View.ld (Val := Elt F) ws (Rect.unit ![0, 512 * c.val] S1x512.size (inb_ws c))) shapeCasts_S1x512_S1x512) (slices_scale u) : FVec F S1x128 .f32)
      broadcasts_S1x128_S256x128)) coef

/-- Tile `u` of the second model's logits, in base-2 units. -/
def zqT (c : Fin 3) (xr : FVec F S256x1536 .bf16) (wr : Vec F S1536x768 .i8) (s2 z2 : FVec F S12x1536 .bf16) (u : Fin 4) : Lanes F :=
  mulf (extractStridedSlice S256x128 ![0, 128 * u.val] (accq c xr wr s2 z2) (slices_tile u) : FVec F S256x128 .f32)
    (broadcast S256x128 (Named.named κ "log2e" 0x3FB8AA3B#32 : F .f32))

/-- Where the target's word is lane `l` of tile `u`. -/
def hitT (c : Fin 3) (i : BitVec 32) (tgt : IVec S256x128 32) (u : Fin 4) : IVec S256x128 1 :=
  cmpi .eq (addi (iota Kind.tc S256x128 32 [1] iota_S256x128_d1_w32) (broadcast S256x128 (BitVec.ofNat 32 (128 * u.val))))
    (subi tgt (broadcast S256x128 (Scalar.addi (Scalar.muli i 1536#32) (BitVec.ofNat 32 (512 * c.val)))))

/-- The same numbers, copied. -/
def cp (x : Lanes F) : Lanes F := shapeCast S256x128 x shapeCasts_S256x128_S256x128

/-- The new running maximum. -/
def mNew (m : Lanes F) (z : Fin 4 → Lanes F) : Lanes F := maximumf (maximumf (maximumf (maximumf m (z 0)) (z 1)) (z 2)) (z 3)

/-- The new running sum of powers. -/
def sNew (s m n : Lanes F) (z : Fin 4 → Lanes F) : Lanes F :=
  addf (addf (addf (addf (mulf s (exp2 (subf m n))) (exp2 (subf (z 0) n))) (exp2 (subf (z 1) n))) (exp2 (subf (z 2) n))) (exp2 (subf (z 3) n))

/-- The new running sum of weighted differences. -/
def kNew (k m n : Lanes F) (z w : Fin 4 → Lanes F) : Lanes F :=
  addf (addf (addf (addf (mulf k (exp2 (subf m n))) (mulf (exp2 (subf (z 0) n)) (subf (z 0) (w 0))))
    (mulf (exp2 (subf (z 1) n)) (subf (z 1) (w 1)))) (mulf (exp2 (subf (z 2) n)) (subf (z 2) (w 2))))
    (mulf (exp2 (subf (z 3) n)) (subf (z 3) (w 3)))

/-- The new running logit of the target. -/
def tNew (t : Lanes F) (h : Fin 4 → IVec S256x128 1) (z : Fin 4 → Lanes F) : Lanes F :=
  select (h 3) (z 3) (select (h 2) (z 2) (select (h 1) (z 1) (select (h 0) (z 0) t)))

/-- The seven running vectors. -/
structure St (F : FTy → Type) [FloatOps F] [Named F] where
  (mp sp ka mq sq tp tq : Vec F S256x128 .f32)

/-- One sub-block's update of the running vectors. -/
def upd (z w : Fin 4 → Lanes F) (h : Fin 4 → IVec S256x128 1) (a : St F) : St F where
  mp := cp (mNew a.mp z)
  sp := cp (sNew a.sp a.mp (mNew a.mp z) z)
  ka := cp (kNew a.ka a.mp (mNew a.mp z) z w)
  mq := cp (mNew a.mq w)
  sq := cp (sNew a.sq a.mq (mNew a.mq w) w)
  tp := cp (tNew a.tp h z)
  tq := cp (tNew a.tq h w)

/-- Sub-block `c` of a grid step. -/
def sub (c : Fin 3) (i : BitVec 32) (xr : FVec F S256x1536 .bf16) (xc : Vec F S256x1536 .fp8e4m3) (coef : Lanes F) (tgt : IVec S256x128 32)
    (wp : Vec F S1536x1536 .fp8e4m3) (ws : Vec F S1x1536 .f32) (wr : Vec F S1536x768 .i8) (s2 z2 : FVec F S12x1536 .bf16) (a : St F) : St F :=
  upd (zpT c xc wp ws coef) (zqT c xr wr s2 z2) (hitT c i tgt) a

/-- One grid step. -/
def step (i : BitVec 32) (xr : FVec F S256x1536 .bf16) (xc : Vec F S256x1536 .fp8e4m3) (coef : Lanes F) (tgt : IVec S256x128 32)
    (wp : Vec F S1536x1536 .fp8e4m3) (ws : Vec F S1x1536 .f32) (wr : Vec F S1536x768 .i8) (s2 z2 : FVec F S12x1536 .bf16) (a : St F) : St F :=
  sub 2 i xr xc coef tgt wp ws wr s2 z2 (sub 1 i xr xc coef tgt wp ws wr s2 z2 (sub 0 i xr xc coef tgt wp ws wr s2 z2 a))

/-! The quantiser, of one batch's block. -/

/-- The numbers of one batch. -/
def qf (x : Vec F S1x128x1536 .bf16) : FVec F S128x1536 .f32 :=
  extf .f32 (shapeCast S128x1536 x shapeCasts_S1x128x1536_S128x1536 : FVec F S128x1536 .bf16) bitsLt_bf16_f32

/-- Each row's largest magnitude over 448, along the lanes. -/
def qv (x : Vec F S1x128x1536 .bf16) : FVec F S128x128 .f32 :=
  broadcastTo S128x128 (shapeCast S128x1 (mulf (shapeCast S128x1
    (multiReduction .maximumf [1] S128 (absf (qf x)) 0xFF800000#32 reduces_S128x1536_S128 (.inl rfl) rfl : FVec F S128 .f32)
      shapeCasts_S128_S128x1) (broadcast S128x1 (Scalar.ofBits .f32 0x3B124925#32 : F .f32)) : FVec F S128x1 .f32) shapeCasts_S128x1_S128x1)
    broadcasts_S128x1_S128x128

/-- One step of the search for the exponent. -/
def qprobe (v : FVec F S128x128 .f32) (e : IVec S128x128 32) (b : BitVec 32) : IVec S128x128 32 :=
  select (cmpf .olt v (bitcastToFloat .f32 (shli (addi e (broadcast S128x128 b)) (broadcast S128x128 23#32)))) e
    (addi e (broadcast S128x128 b))

/-- The exponent field found. -/
def qb (v : FVec F S128x128 .f32) : IVec S128x128 32 :=
  qprobe v (qprobe v (qprobe v (qprobe v (qprobe v (qprobe v (qprobe v (qprobe v (broadcast S128x128 0#32) 128#32) 64#32) 32#32)
    16#32) 8#32) 4#32) 2#32) 1#32

/-- The power of two's exponent. -/
def qk (v : FVec F S128x128 .f32) : IVec S128x128 32 :=
  select (cmpi .eq (qb v) (broadcast S128x128 0#32)) (broadcast S128x128 0#32) (subi (qb v) (broadcast S128x128 126#32))

/-- The scale. -/
def qscale (v : FVec F S128x128 .f32) : FVec F S128x128 .f32 :=
  bitcastToFloat .f32 (shli (addi (broadcast S128x128 127#32) (qk v)) (broadcast S128x128 23#32))

/-- The scale's inverse. -/
def qinv (v : FVec F S128x128 .f32) : FVec F S128x128 .f32 :=
  bitcastToFloat .f32 (shli (subi (broadcast S128x128 127#32) (qk v)) (broadcast S128x128 23#32))

/-- The codes. -/
def qcode (x : Vec F S1x128x1536 .bf16) : FVec F S128x1536 .fp8e4m3 :=
  truncf .fp8e4m3 (minimumf (broadcast S128x1536 (Scalar.ofBits .f32 0x43E00000#32 : F .f32))
    (maximumf (broadcast S128x1536 (Scalar.ofBits .f32 0xC3E00000#32 : F .f32))
      (mulf (qf x) (broadcastTo S128x1536 (extractStridedSlice S128x1 ![0, 0] (qinv (qv x)) slices_S128x128_o0_0_S128x1)
        broadcasts_S128x1_S128x1536)))) bitsLt_fp8e4m3_f32

/-- The scale in base-2 units. -/
def qcoef (x : Vec F S1x128x1536 .bf16) : FVec F S128x128 .f32 :=
  shapeCast S128x128 (mulf (qscale (qv x)) (broadcast S128x128 (Named.named κ "log2e" 0x3FB8AA3B#32 : F .f32))) shapeCasts_S128x128_S128x128

/-- Batch `b` of the states. -/
def bat (b : Fin 2) (x : Vec F S2x128x1536 .bf16) : Vec F S1x128x1536 .bf16 :=
  View.ld (Val := Elt F) x (Rect.unit ![b.val, 0, 0] S1x128x1536.size (by revert b; decide))

/-- Both batches' codes, one above the other. -/
def xcA (x : Vec F S2x128x1536 .bf16) : Vec F S256x1536 .fp8e4m3 :=
  View.canon [⟨Rect.unit ![128, 0] S128x1536.size inb_S256x1536_S128x1536_128_0, shapeCast S128x1536 (qcode (bat 1 x)) shapeCasts_S128x1536_S128x1536⟩,
    ⟨Rect.unit ![0, 0] S128x1536.size inb_S256x1536_S128x1536_0_0, shapeCast S128x1536 (qcode (bat 0 x)) shapeCasts_S128x1536_S128x1536⟩]

/-- Both batches' scales in base-2 units, one above the other. -/
def coefA (x : Vec F S2x128x1536 .bf16) : Lanes F :=
  View.canon [⟨Rect.unit ![128, 0] S128x128.size inb_S256x128_S128x128_128_0, qcoef (bat 1 x)⟩,
    ⟨Rect.unit ![0, 0] S128x128.size inb_S256x128_S128x128_0_0, qcoef (bat 0 x)⟩]

/-- Both batches' targets, one above the other, along the lanes. -/
def tgtA (t : Vec F S2x128 .i32) : Vec F S256x128 .i32 :=
  View.canon [⟨Rect.unit ![128, 0] S128x128.size inb_S256x128_S128x128_128_0,
      k0_pay28 (View.ld (Val := Elt F) t (Rect.unit ![1, 0] S1x128.size inb_S2x128_S1x128_1_0))⟩,
    ⟨Rect.unit ![0, 0] S128x128.size inb_S256x128_S128x128_0_0,
      k0_pay27 (View.ld (Val := Elt F) t (Rect.unit ![0, 0] S1x128.size inb_S2x128_S1x128_0_0))⟩]

/-- The running vectors before the first step. -/
def stA : St F where
  mp := cp (broadcast S256x128 (Scalar.ofBits .f32 0xFF800000#32 : F .f32))
  sp := cp (broadcast S256x128 (Scalar.ofBits .f32 0x00000000#32 : F .f32))
  ka := cp (broadcast S256x128 (Scalar.ofBits .f32 0x00000000#32 : F .f32))
  mq := cp (broadcast S256x128 (Scalar.ofBits .f32 0xFF800000#32 : F .f32))
  sq := cp (broadcast S256x128 (Scalar.ofBits .f32 0x00000000#32 : F .f32))
  tp := cp (broadcast S256x128 (Scalar.ofBits .f32 0x00000000#32 : F .f32))
  tq := cp (broadcast S256x128 (Scalar.ofBits .f32 0x00000000#32 : F .f32))

/-- The codes' array. -/
def codesA (x : Vec F S2x128x1536 .bf16) : Vec F S2x128x1536 .fp8e4m3 :=
  View.canon [⟨Rect.unit ![1, 0, 0] S1x128x1536.size inb_S2x128x1536_S1x128x1536_1_0_0, shapeCast S1x128x1536 (qcode (bat 1 x)) shapeCasts_S128x1536_S1x128x1536⟩,
    ⟨Rect.unit ![0, 0, 0] S1x128x1536.size inb_S2x128x1536_S1x128x1536_0_0_0, shapeCast S1x128x1536 (qcode (bat 0 x)) shapeCasts_S128x1536_S1x128x1536⟩]

/-- The scales' array. -/
def scalesA (x : Vec F S2x128x1536 .bf16) : Vec F S2x128 .f32 :=
  View.canon [⟨Rect.unit ![1, 0] S1x128.size inb_S2x128_S1x128_1_0,
      extractStridedSlice S1x128 ![0, 0] (transpose S128x128 [1, 0] (qscale (qv (bat 1 x))) transposes_S128x128_p1_0_S128x128 : FVec F S128x128 .f32) slices_S128x128_o0_0_S1x128⟩,
    ⟨Rect.unit ![0, 0] S1x128.size inb_S2x128_S1x128_0_0,
      extractStridedSlice S1x128 ![0, 0] (transpose S128x128 [1, 0] (qscale (qv (bat 0 x))) transposes_S128x128_p1_0_S128x128 : FVec F S128x128 .f32) slices_S128x128_o0_0_S1x128⟩]

/-! The last step's combination of the lanes. -/

/-- A number per row. -/
abbrev Col (F : FTy → Type) [FloatOps F] [Named F] := FVec F S256x1 .f32

/-- The largest lane. -/
def rowMax (m : Lanes F) : Col F :=
  shapeCast S256x1 (multiReduction .maximumf [1] S256 m 0xFF800000#32 reduces_S256x128_S256 (.inl rfl) rfl : FVec F S256 .f32) shapeCasts_S256_S256x1

/-- The sum of the lanes. -/
def rowSum (m : Lanes F) : Col F :=
  shapeCast S256x1 (multiReduction .add [1] S256 m 0x00000000#32 reduces_S256x128_S256 (.inl rfl) rfl : FVec F S256 .f32) shapeCasts_S256_S256x1

/-- Each lane's weight. -/
def laneW (m : Lanes F) : Lanes F := exp2 (subf m (broadcastTo S256x128 (rowMax m) broadcasts_S256x1_S256x128))

/-- Times the natural logarithm of two. -/
def inNat (x : Col F) : Col F := mulf (broadcast S256x1 (Named.named κ "ln2" 0x3F317218#32 : F .f32)) x

/-- The logarithm of the sum of exponentials. -/
def lseC (m s : Lanes F) : Col F := addf (inNat (rowMax m)) (log (rowSum (mulf s (laneW m))))

/-- Log probability of the target. -/
def lpC (t m s : Lanes F) : Col F := subf (inNat (rowSum t)) (lseC m s)

/-- The divergence. -/
def klC (a : St F) : Col F :=
  addf (subf (divf (inNat (rowSum (mulf a.ka (laneW a.mp)))) (rowSum (mulf a.sp (laneW a.mp)))) (lseC a.mp a.sp)) (lseC a.mq a.sq)

/-- A batch's numbers, laid along the lanes. -/
def flip1 (x : FVec F S128x1 .f32) : FVec F S1x128 .f32 :=
  extractStridedSlice S1x128 ![0, 0] (transpose S128x128 [1, 0] (broadcastTo S128x128 (shapeCast S128x1 x shapeCasts_S128x1_S128x1)
    broadcasts_S128x1_S128x128) transposes_S128x128_p1_0_S128x128) slices_S128x128_o0_0_S1x128

/-- Both batches' numbers as the result holds them. -/
def outC (x : Col F) : Vec F S2x128 .f32 :=
  View.canon [⟨Rect.unit ![1, 0] S1x128.size inb_S2x128_S1x128_1_0, flip1 (extractStridedSlice S128x1 ![128, 0] x slices_S256x1_o128_0_S128x1)⟩,
    ⟨Rect.unit ![0, 0] S1x128.size inb_S2x128_S1x128_0_0, flip1 (extractStridedSlice S128x1 ![0, 0] x slices_S256x1_o0_0_S128x1)⟩]

def outLp (a : St F) : Vec F S2x128 .f32 := outC (lpC a.tp a.mp a.sp)
def outLq (a : St F) : Vec F S2x128 .f32 := outC (lpC a.tq a.mq a.sq)
def outKl (a : St F) : Vec F S2x128 .f32 := outC (klC a)

end Cert.Proof.K
-- ==== Proof.Math.lean ====
module

public import Idealize.ShloMosaic.PureOps.Ideal.Laws

/-! # The online softmax over the extended reals

The weights `2 ^ (z - m)` of a running maximum, the sums weighted by them, and how both change when the maximum grows. -/

@[expose] public section

namespace Cert.Proof
open Idealize Idealize.ShloMosaic

/-- The weight of the logit `z` (in base 2) against the running maximum `m`. -/
noncomputable abbrev wt2 (z m : EReal) : EReal := Ideal.exp2 (z - m)

theorem exp2_coe (r : ℝ) : Ideal.exp2 (r : EReal) = (((2 : ℝ) ^ r : ℝ) : EReal) := rfl
theorem exp2_bot : Ideal.exp2 ⊥ = 0 := rfl
theorem exp2_top : Ideal.exp2 ⊤ = ⊤ := rfl

theorem wt2_bot (m : EReal) : wt2 ⊥ m = 0 := by
  rw [wt2, sub_eq_add_neg, EReal.bot_add, exp2_bot]

theorem wt2_top (z : EReal) : wt2 z ⊤ = 0 := by
  rw [wt2, sub_eq_add_neg, EReal.neg_top, EReal.add_bot, exp2_bot]

theorem wt2_coe (z m : ℝ) : wt2 (z : EReal) (m : EReal) = (((2 : ℝ) ^ (z - m) : ℝ) : EReal) := by
  rw [wt2, ← EReal.coe_sub, exp2_coe]

/-- A weight against a maximum that bounds the logit is a nonnegative real number. -/
theorem wt2_real {z m : EReal} (h : z ≤ m) : ∃ r : ℝ, 0 ≤ r ∧ wt2 z m = (r : EReal) := by
  induction z with
  | bot => exact ⟨0, le_rfl, wt2_bot m⟩
  | top =>
    rw [top_le_iff] at h; subst h; exact ⟨0, le_rfl, wt2_top _⟩
  | coe z =>
    induction m with
    | bot => simp at h
    | top => exact ⟨0, le_rfl, wt2_top _⟩
    | coe m => exact ⟨_, (Real.rpow_pos_of_pos two_pos _).le, wt2_coe z m⟩

/-- Rescaling a weight from the maximum `m` to a larger maximum `m'`. -/
theorem wt2_mul {z m m' : EReal} (h : z ≤ m) (h' : m ≤ m') : wt2 z m * wt2 m m' = wt2 z m' := by
  induction z with
  | bot => rw [wt2_bot, wt2_bot, zero_mul]
  | top =>
    rw [top_le_iff] at h; subst h; rw [top_le_iff] at h'; subst h'; rw [wt2_top, zero_mul]
  | coe z =>
    induction m with
    | bot => simp at h
    | top => rw [top_le_iff] at h'; subst h'; rw [wt2_top, wt2_top, zero_mul]
    | coe m =>
      induction m' with
      | bot => simp at h'
      | top => rw [wt2_top, wt2_top, mul_zero]
      | coe m' =>
        rw [wt2_coe, wt2_coe, wt2_coe, ← EReal.coe_mul, ← Real.rpow_add two_pos]
        congr 2; ring

/-- Multiplication by a nonnegative real distributes over a finite sum of extended reals. -/
theorem sum_mul_real {ι : Type*} (s : Finset ι) (f : ι → EReal) {c : EReal} (h : ∃ r : ℝ, 0 ≤ r ∧ c = (r : EReal)) :
    (∑ i ∈ s, f i) * c = ∑ i ∈ s, f i * c := by
  classical
  obtain ⟨r, hr, rfl⟩ := h
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem real_mul_sum {ι : Type*} (s : Finset ι) (f : ι → EReal) {c : EReal} (h : ∃ r : ℝ, 0 ≤ r ∧ c = (r : EReal)) :
    c * (∑ i ∈ s, f i) = ∑ i ∈ s, c * f i := by
  rw [mul_comm, sum_mul_real s f h]; exact Finset.sum_congr rfl fun i _ => mul_comm _ _

/-- The sum of `g` over the first `N` logits `a`, each weighted against the maximum `M`. -/
noncomputable def wsum (a g : ℕ → EReal) (N : ℕ) (M : EReal) : EReal := ∑ n ∈ Finset.range N, wt2 (a n) M * g n

/-- The maximum of the first `N` logits. -/
noncomputable def wmax (a : ℕ → EReal) (N : ℕ) : EReal := (Finset.range N).sup a

/-- The logit at the target among the first `N`. -/
noncomputable def whit (a : ℕ → EReal) (hit : ℕ → Prop) [DecidablePred hit] (N : ℕ) : EReal :=
  ∑ n ∈ Finset.range N, if hit n then a n else 0

theorem wmax_succ (a : ℕ → EReal) (N : ℕ) : wmax a (N + 1) = max (wmax a N) (a N) := by
  rw [wmax, Finset.range_add_one, Finset.sup_insert, max_comm]; rfl

theorem le_wmax (a : ℕ → EReal) {n N : ℕ} (h : n < N) : a n ≤ wmax a N :=
  Finset.le_sup (f := a) (Finset.mem_range.mpr h)

theorem wsum_succ (a g : ℕ → EReal) (N : ℕ) (M : EReal) : wsum a g (N + 1) M = wsum a g N M + wt2 (a N) M * g N := by
  rw [wsum, Finset.sum_range_succ]; rfl

/-- The weighted sum moves to a larger maximum by one multiplication. -/
theorem wsum_rescale (a g : ℕ → EReal) (N : ℕ) {M M' : EReal} (h : ∀ n < N, a n ≤ M) (h' : M ≤ M') :
    wsum a g N M * wt2 M M' = wsum a g N M' := by
  rw [wsum, sum_mul_real _ _ (wt2_real h')]
  refine Finset.sum_congr rfl fun n hn => ?_
  rw [mul_right_comm, wt2_mul (h n (Finset.mem_range.mp hn)) h']

theorem whit_succ (a : ℕ → EReal) (hit : ℕ → Prop) [DecidablePred hit] (N : ℕ)
    (h : ∀ n < N, hit n → ¬ hit N) : whit a hit (N + 1) = if hit N then a N else whit a hit N := by
  rw [whit, Finset.sum_range_succ]
  split_ifs with hN
  · rw [Finset.sum_eq_zero, zero_add]
    intro n hn
    rw [if_neg fun hh => h n (Finset.mem_range.mp hn) hh hN]
  · rw [add_zero]; rfl

/-- One running maximum over four further logits. -/
theorem wmax_four (a : ℕ → EReal) (N : ℕ) :
    max (max (max (max (wmax a N) (a N)) (a (N + 1))) (a (N + 2))) (a (N + 3)) = wmax a (N + 4) := by
  rw [wmax_succ, wmax_succ, wmax_succ, wmax_succ]

theorem wmax_mono (a : ℕ → EReal) {N N' : ℕ} (h : N ≤ N') : wmax a N ≤ wmax a N' :=
  Finset.sup_mono (Finset.range_mono h)

/-- One rescaled weighted sum over four further logits. -/
theorem wsum_four (a g : ℕ → EReal) (N : ℕ) :
    (((wsum a g N (wmax a N) * wt2 (wmax a N) (wmax a (N + 4)) + wt2 (a N) (wmax a (N + 4)) * g N)
      + wt2 (a (N + 1)) (wmax a (N + 4)) * g (N + 1)) + wt2 (a (N + 2)) (wmax a (N + 4)) * g (N + 2))
      + wt2 (a (N + 3)) (wmax a (N + 4)) * g (N + 3) = wsum a g (N + 4) (wmax a (N + 4)) := by
  rw [wsum_rescale a g N (fun n hn => le_wmax a hn) (wmax_mono a (by omega)), wsum_succ, wsum_succ, wsum_succ, wsum_succ]

/-- One target selection over four further logits. -/
theorem whit_four (a : ℕ → EReal) (hit : ℕ → Prop) [DecidablePred hit] (N : ℕ) (h : ∀ m n, hit m → hit n → m = n) :
    (if hit (N + 3) then a (N + 3) else if hit (N + 2) then a (N + 2) else if hit (N + 1) then a (N + 1)
      else if hit N then a N else whit a hit N) = whit a hit (N + 4) := by
  have key : ∀ N, ∀ n < N, hit n → ¬ hit N := fun N n hn h1 h2 => absurd (h _ _ h1 h2) (by omega)
  rw [whit_succ _ _ _ (key _), whit_succ _ _ _ (key _), whit_succ _ _ _ (key _), whit_succ _ _ _ (key _)]

/-! ## Base 2 against base e -/

/-- The number of bits in one natural unit, as an extended real. -/
noncomputable abbrev log2e : EReal := (((Real.log 2)⁻¹ : ℝ) : EReal)
/-- The natural logarithm of two, as an extended real. -/
noncomputable abbrev ln2 : EReal := ((Real.log 2 : ℝ) : EReal)

theorem log_two_pos : 0 < Real.log 2 := Real.log_pos one_lt_two
theorem log2e_pos : 0 < (Real.log 2)⁻¹ := inv_pos.mpr log_two_pos
theorem log2e_real : ∃ r : ℝ, 0 ≤ r ∧ log2e = (r : EReal) := ⟨_, log2e_pos.le, rfl⟩

theorem ln2_mul_log2e (x : EReal) : ln2 * (log2e * x) = x := by
  rw [← mul_assoc, ← EReal.coe_mul, mul_inv_cancel₀ log_two_pos.ne', EReal.coe_one, one_mul]

theorem exp2_log2e (x : EReal) : Ideal.exp2 (log2e * x) = Ideal.exp x := by
  induction x with
  | bot => rw [EReal.coe_mul_bot_of_pos log2e_pos]; rfl
  | top => rw [EReal.coe_mul_top_of_pos log2e_pos]; rfl
  | coe x =>
    rw [← EReal.coe_mul, exp2_coe, Real.rpow_def_of_pos two_pos, ← mul_assoc, mul_inv_cancel₀ log_two_pos.ne', one_mul]
    rfl

theorem log2e_mul_sub (x y : EReal) : log2e * x - log2e * y = log2e * (x - y) := by
  have h0 : (0 : EReal) ≤ log2e := EReal.coe_nonneg.mpr log2e_pos.le
  rw [sub_eq_add_neg, sub_eq_add_neg, ← mul_neg, EReal.left_distrib_of_nonneg_of_ne_top h0 (EReal.coe_ne_top _)]

theorem log2e_mono : Monotone (fun x : EReal => log2e * x) := fun x y h =>
  mul_le_mul_of_nonneg_left h (EReal.coe_nonneg.mpr log2e_pos.le)

theorem log2e_sup {ι : Type*} (s : Finset ι) (f : ι → EReal) : s.sup (fun i => log2e * f i) = log2e * s.sup f :=
  (Finset.comp_sup_eq_sup_comp_of_is_total (fun x : EReal => log2e * x) log2e_mono
    (EReal.coe_mul_bot_of_pos log2e_pos)).symm

end Cert.Proof
-- ==== Proof.Quant.lean ====
module

public import proofs.«01_k».proof.Proof.Math

/-! # The row scale of the quantiser

The kernel finds the exponent of a row's largest magnitude over 448 by a binary search against powers of two; the
reference takes the floor of its logarithm. The two agree on normal numbers and on zero. -/

@[expose] public section

namespace Cert.Proof
open Idealize Idealize.ShloMosaic

/-- The `f32` number whose exponent field is `n` and whose other fields are zero. -/
noncomputable def expo (n : ℕ) : EReal := if n ≤ 254 then (((2 : ℝ) ^ ((n : ℤ) - 127) : ℝ) : EReal) else ⊤

/-- The word whose exponent field is `n`, read as an extended real. -/
theorem ofBits_expo {b : BitVec 32} (h1 : 1 ≤ b.toNat) (h2 : b.toNat ≤ 255) :
    Ideal.ofBits .f32 (b <<< 23) = expo b.toNat := by
  have hs : (b <<< 23).toNat = b.toNat * 2 ^ 23 := by
    rw [BitVec.toNat_shiftLeft, Nat.shiftLeft_eq]
    exact Nat.mod_eq_of_lt (by omega)
  have e1 : (BitVec.extractLsb' 31 1 (b <<< 23)) = 0#1 := by
    apply BitVec.eq_of_toNat_eq
    rw [BitVec.extractLsb'_toNat, hs, Nat.shiftRight_eq_div_pow]
    show _ % 2 ^ 1 = 0
    omega
  have e2 : (BitVec.extractLsb' 23 8 (b <<< 23)).toNat = b.toNat := by
    rw [BitVec.extractLsb'_toNat, hs, Nat.shiftRight_eq_div_pow]; omega
  have e3 : (BitVec.extractLsb' 0 23 (b <<< 23)).toNat = 0 := by
    rw [BitVec.extractLsb'_toNat, hs, Nat.shiftRight_eq_div_pow]; omega
  have key : Ideal.ofBits .f32 (b <<< 23) =
      if b.toNat = 255 then ⊤ else if b.toNat = 0 then (((1 : ℝ) * (0 : ℕ) * (2 : ℝ) ^ (1 - (2 ^ (8 - 1) - 1 : ℤ) - (23 : ℕ)) : ℝ) : EReal)
        else ((((1 : ℝ) * ((2 ^ 23 + 0 : ℕ) : ℝ) * (2 : ℝ) ^ ((b.toNat : ℤ) - (2 ^ (8 - 1) - 1 : ℤ) - (23 : ℕ))) : ℝ) : EReal) := by
    show Ideal.ieee 8 23 (b <<< 23) = _
    generalize b <<< 23 = w at e1 e2 e3
    generalize b.toNat = n at e2
    subst e2
    unfold Ideal.ieee
    simp [e1, e3]
  rw [key]
  unfold expo
  by_cases h : b.toNat = 255
  · rw [if_pos h, if_neg (by omega)]
  · rw [if_neg h, if_neg (by omega), if_pos (by omega), one_mul,
      show ((2 ^ 23 + 0 : ℕ) : ℝ) = (2 : ℝ) ^ (23 : ℤ) by norm_num, ← zpow_add₀ two_ne_zero]
    refine congrArg (fun k : ℤ => (((2 : ℝ) ^ k : ℝ) : EReal)) ?_
    norm_num

/-- One step of the search: set `bit` in the exponent when the number it makes does not exceed `v`. -/
noncomputable def probe (v : EReal) (b bit : BitVec 32) : BitVec 32 :=
  Scalar.select (FloatOps.cmpf (F := Ideal) (φ := .f32) .olt v
    (FloatOps.ofBits (F := Ideal) .f32 (IntOp.shli .vector (IntOp.addi b bit) 23#32))) b (IntOp.addi b bit)

/-- The search: eight steps from the highest bit of the exponent field to the lowest. -/
noncomputable def bexp (v : EReal) : BitVec 32 :=
  probe v (probe v (probe v (probe v (probe v (probe v (probe v (probe v 0#32 128#32) 64#32) 32#32) 16#32) 8#32) 4#32) 2#32) 1#32

theorem probe_toNat (v : EReal) {b bit : BitVec 32} (h1 : 1 ≤ bit.toNat) (h2 : b.toNat + bit.toNat ≤ 255) :
    (probe v b bit).toNat = if v < expo (b.toNat + bit.toNat) then b.toNat else b.toNat + bit.toNat := by
  have hadd : (b + bit).toNat = b.toNat + bit.toNat := by rw [BitVec.toNat_add]; omega
  have he : FloatOps.ofBits (F := Ideal) .f32 (IntOp.shli .vector (IntOp.addi b bit) 23#32) = expo (b.toNat + bit.toNat) := by
    have := ofBits_expo (b := b + bit) (by omega) (by omega)
    rw [hadd] at this
    exact this
  unfold probe
  rw [he]
  show BitVec.toNat (Scalar.select (BitVec.ofBool (decide (v < _))) b (b + bit)) = _
  by_cases h : v < expo (b.toNat + bit.toNat)
  · rw [if_pos h, decide_eq_true h]; rfl
  · rw [if_neg h, decide_eq_false h, ← hadd]; rfl

/-- Between two steps: the exponent found so far is at most `v`'s, and `v`'s is within the bits still to be set. -/
def Found (v : EReal) (b : BitVec 32) (w : ℕ) : Prop :=
  b.toNat + w ≤ 256 ∧ (b.toNat = 0 ∨ expo b.toNat ≤ v) ∧ v < expo (b.toNat + w)

theorem Found.step {v : EReal} {b bit : BitVec 32} (h : Found v b (2 * bit.toNat)) (hb : 1 ≤ bit.toNat) :
    Found v (probe v b bit) bit.toNat := by
  obtain ⟨h1, h2, h3⟩ := h
  have hp := probe_toNat v (b := b) hb (by omega)
  unfold Found
  rw [hp]
  split_ifs with hv
  · exact ⟨by omega, h2, hv⟩
  · exact ⟨by omega, .inr (not_lt.mp hv), by rwa [show b.toNat + bit.toNat + bit.toNat = b.toNat + 2 * bit.toNat by omega]⟩

theorem found_bexp {v : EReal} (hv : v < ⊤) : Found v (bexp v) 1 := by
  have h0 : Found v 0#32 (2 * (128#32).toNat) := ⟨by decide, .inl rfl, by unfold expo; rwa [if_neg (by decide)]⟩
  exact (((((((h0.step (by decide)).step (bit := 64#32) (by decide)).step (bit := 32#32) (by decide)).step
    (bit := 16#32) (by decide)).step (bit := 8#32) (by decide)).step (bit := 4#32) (by decide)).step (bit := 2#32) (by decide)).step
    (bit := 1#32) (by decide)

/-- The exponent word the kernel scales by: zero for a zero row, else the search's result less 126. -/
noncomputable def kexp (v : EReal) : BitVec 32 :=
  Scalar.select (IntOp.cmpi .eq (bexp v) 0#32) 0#32 (IntOp.subi (bexp v) 126#32)

/-- The kernel's row scale. -/
noncomputable def kscale (v : EReal) : EReal :=
  FloatOps.ofBits (F := Ideal) .f32 (IntOp.shli .vector (IntOp.addi 127#32 (kexp v)) 23#32)
/-- The kernel's inverse row scale. -/
noncomputable def kinv (v : EReal) : EReal :=
  FloatOps.ofBits (F := Ideal) .f32 (IntOp.shli .vector (IntOp.subi 127#32 (kexp v)) 23#32)

/-- The reference's exponent of a row whose largest magnitude is `a` and whose ratio to 448 is `v`. -/
noncomputable def rexp (a v : EReal) : EReal :=
  if a = 0 then 0 else Ideal.liftRound Int.floor (Ideal.log v * log2e) + 1

theorem scale_zero : kscale 0 = Ideal.exp2 0 ∧ kinv 0 = Ideal.exp2 (-0) := by
  have hb : bexp 0 = 0#32 := by
    have hf := (found_bexp (v := 0) EReal.zero_lt_top).2.1
    rcases hf with h | h
    · exact BitVec.eq_of_toNat_eq h
    · exfalso
      unfold expo at h
      split_ifs at h
      · have h' : ((2 : ℝ) ^ (((bexp 0).toNat : ℤ) - 127)) ≤ 0 := by exact_mod_cast h
        exact absurd h' (not_le.mpr (zpow_pos two_pos _))
      · simp at h
  have hk : kexp 0 = 0#32 := by unfold kexp; rw [hb]; rfl
  have e0 : Ideal.exp2 0 = ((2 : ℝ) ^ (((127 : ℕ) : ℤ) - 127) : ℝ) := by
    rw [← EReal.coe_zero, exp2_coe]; norm_num
  have key : Ideal.ofBits .f32 (127#32 <<< 23) = Ideal.exp2 0 := by
    rw [ofBits_expo (by decide) (by decide), e0]; exact if_pos (by decide)
  refine ⟨?_, ?_⟩
  · unfold kscale; rw [hk]; exact key
  · unfold kinv; rw [hk, neg_zero]; exact key

theorem scale_normal {a v : EReal} (ha : a ≠ 0) (h1 : (((2 : ℝ) ^ (-126 : ℤ) : ℝ) : EReal) ≤ v)
    (h2 : v < (((2 : ℝ) ^ (120 : ℤ) : ℝ) : EReal)) :
    kscale v = Ideal.exp2 (rexp a v) ∧ kinv v = Ideal.exp2 (-rexp a v) := by
  induction v with
  | bot => simp at h1
  | top => simp at h2
  | coe v =>
    have h1' : (2 : ℝ) ^ (-126 : ℤ) ≤ v := by exact_mod_cast h1
    have h2' : v < (2 : ℝ) ^ (120 : ℤ) := by exact_mod_cast h2
    have hv0 : 0 < v := lt_of_lt_of_le (zpow_pos two_pos _) h1'
    obtain ⟨hb1, hb2, hb3⟩ := found_bexp (v := (v : EReal)) (EReal.coe_lt_top v)
    set n := (bexp (v : EReal)).toNat with hn
    have hn1 : 1 ≤ n := by
      by_contra hcon
      have h0 : n = 0 := by omega
      rw [h0] at hb3
      unfold expo at hb3
      rw [if_pos (by decide)] at hb3
      have : v < (2 : ℝ) ^ (-126 : ℤ) := by have := EReal.coe_lt_coe_iff.mp hb3; norm_num at this ⊢; exact this
      exact absurd h1' (not_le.mpr this)
    have hle : expo n ≤ v := hb2.resolve_left (by omega)
    have hn254 : n ≤ 254 := by
      by_contra hcon
      unfold expo at hle
      rw [if_neg hcon] at hle
      simp at hle
    have hle' : (2 : ℝ) ^ ((n : ℤ) - 127) ≤ v := by
      unfold expo at hle; rw [if_pos hn254] at hle; exact_mod_cast hle
    have hn246 : n ≤ 246 := by
      by_contra hcon
      have : (2 : ℝ) ^ (120 : ℤ) ≤ (2 : ℝ) ^ ((n : ℤ) - 127) := zpow_le_zpow_right₀ one_le_two (by omega)
      linarith
    have hlt' : v < (2 : ℝ) ^ ((n : ℤ) - 126) := by
      unfold expo at hb3; rw [if_pos (by omega)] at hb3
      have := EReal.coe_lt_coe_iff.mp hb3
      rwa [show (((n + 1 : ℕ) : ℤ) - 127) = (n : ℤ) - 126 by push_cast; ring] at this
    have hl2 := log_two_pos
    have hfl : ⌊Real.log v * (Real.log 2)⁻¹⌋ = (n : ℤ) - 127 := by
      rw [← div_eq_mul_inv, Int.floor_eq_iff]
      constructor
      · rw [le_div_iff₀ hl2]
        have := Real.log_le_log (zpow_pos two_pos _) hle'
        rw [Real.log_zpow] at this; exact this
      · rw [div_lt_iff₀ hl2]
        have := Real.log_lt_log hv0 hlt'
        rw [Real.log_zpow] at this
        push_cast at this ⊢
        have e : ((n : ℝ) - 127 + 1) = (n : ℝ) - 126 := by ring
        rw [e]; exact this
    have hr : rexp a v = ((((n : ℤ) - 126 : ℤ) : ℝ) : EReal) := by
      unfold rexp
      rw [if_neg ha]
      have hlog : Ideal.log (v : EReal) = ((Real.log v : ℝ) : EReal) := if_neg (not_le.mpr hv0)
      rw [hlog, ← EReal.coe_mul]
      show (((⌊Real.log v * (Real.log 2)⁻¹⌋ : ℤ) : ℝ) : EReal) + 1 = _
      rw [hfl, ← EReal.coe_one, ← EReal.coe_add]
      congr 1; push_cast; ring
    have hne : bexp (v : EReal) ≠ 0#32 := fun h => by rw [h] at hn; simp at hn; omega
    have hk : kexp (v : EReal) = bexp (v : EReal) - 126#32 := by
      unfold kexp
      have : IntOp.cmpi .eq (bexp (v : EReal)) 0#32 = 0#1 := by
        show BitVec.ofBool (bexp (v : EReal) == 0#32) = 0#1
        rw [beq_eq_false_iff_ne.mpr hne]; rfl
      rw [this]; rfl
    have t1 : (127#32 + kexp (v : EReal)).toNat = n + 1 := by
      rw [hk, BitVec.toNat_add, BitVec.toNat_sub, ← hn]
      simp only [BitVec.toNat_ofNat]; omega
    have t2 : (127#32 - kexp (v : EReal)).toNat = 253 - n := by
      rw [hk, BitVec.toNat_sub, BitVec.toNat_sub, ← hn]
      simp only [BitVec.toNat_ofNat]; omega
    rw [hr]
    refine ⟨?_, ?_⟩
    · have e : kscale (v : EReal) = Ideal.ofBits .f32 ((127#32 + kexp (v : EReal)) <<< 23) := rfl
      rw [e, ofBits_expo (by omega) (by omega), t1, exp2_coe, Real.rpow_intCast]
      unfold expo; rw [if_pos (by omega)]
      refine congrArg (fun k : ℤ => (((2 : ℝ) ^ k : ℝ) : EReal)) ?_
      push_cast; ring
    · have e : kinv (v : EReal) = Ideal.ofBits .f32 ((127#32 - kexp (v : EReal)) <<< 23) := rfl
      rw [e, ofBits_expo (by omega) (by omega), t2, ← EReal.coe_neg, ← Int.cast_neg, exp2_coe, Real.rpow_intCast]
      unfold expo; rw [if_pos (by omega)]
      refine congrArg (fun k : ℤ => (((2 : ℝ) ^ k : ℝ) : EReal)) ?_
      rw [Nat.cast_sub (by omega)]; push_cast; ring

end Cert.Proof
-- ==== Proof.Spec.lean ====
module

public import proofs.«01_k».proof.Proof.Quant
public import Idealize.ShloMosaic.Lib.Pointwise

/-! # What the five results are

The reference's arithmetic as functions of the arguments over the extended reals: the quantised tokens, the two models'
logits, and the log-probabilities and divergence of a row of logits. -/

@[expose] public section

noncomputable section

namespace Cert.Proof
open Idealize Idealize.ShloMosaic

/-- The batch of a token row. -/
def rb (r : Fin 256) : Fin 2 := ⟨r.val / 128, by omega⟩
/-- The position of a token row within its batch. -/
def rs (r : Fin 256) : Fin 128 := ⟨r.val % 128, by omega⟩
/-- The token row of a batch and a position. -/
def row (b : Fin 2) (s : Fin 128) : Fin 256 := ⟨b.val * 128 + s.val, by omega⟩

theorem rb_row (b : Fin 2) (s : Fin 128) : rb (row b s) = b := Fin.ext (by show (b.val * 128 + s.val) / 128 = b.val; omega)
theorem rs_row (b : Fin 2) (s : Fin 128) : rs (row b s) = s := Fin.ext (by show (b.val * 128 + s.val) % 128 = s.val; omega)

/-- The largest magnitude of a row. -/
def amax (x : (⟨3, ![2, 128, 1536]⟩ : Shape).Idx → EReal) (b : Fin 2) (s : Fin 128) : EReal :=
  Finset.univ.sup fun k : Fin 1536 => max (x (ix3 b s k)) (-(x (ix3 b s k)))

/-- The `f32` number nearest one over 448. -/
def c448 : EReal := Ideal.ofBits .f32 0x3B124925#32

/-- The exponent of a row's scale. -/
def xexp (x : (⟨3, ![2, 128, 1536]⟩ : Shape).Idx → EReal) (b : Fin 2) (s : Fin 128) : EReal :=
  rexp (amax x b s) (amax x b s * c448)

/-- A row's scale. -/
def xscale (x : (⟨3, ![2, 128, 1536]⟩ : Shape).Idx → EReal) (b : Fin 2) (s : Fin 128) : EReal := Ideal.exp2 (xexp x b s)

/-- A value scaled by `i` and clipped to ±448. -/
def clip448 (x i : EReal) : EReal := min (Ideal.ofBits .f32 0x43E00000#32) (max (Ideal.ofBits .f32 0xC3E00000#32) (x * i))

/-- A quantised activation. -/
def xcode (x : (⟨3, ![2, 128, 1536]⟩ : Shape).Idx → EReal) (b : Fin 2) (s : Fin 128) (k : Fin 1536) : EReal :=
  clip448 (x (ix3 b s k)) (Ideal.exp2 (-xexp x b s))

/-- The policy's logit. -/
def zpol (x : (⟨3, ![2, 128, 1536]⟩ : Shape).Idx → EReal) (wp : (⟨2, ![152064, 1536]⟩ : Shape).Idx → EReal)
    (ws : (⟨1, ![152064]⟩ : Shape).Idx → EReal) (r : Fin 256) (v : Fin 152064) : EReal :=
  (∑ k : Fin 1536, xcode x (rb r) (rs r) k * wp (ix2 v k)) * (xscale x (rb r) (rs r) * ws (ix1 v))

/-- The low nibble of a byte, as a number. -/
def nlo (w : BitVec 8) : EReal := FloatOps.sitofp (F := Ideal) .f32 (IntOp.andi (w.setWidth 32) 15#32)
/-- The high nibble of a byte, as a number. -/
def nhi (w : BitVec 8) : EReal := FloatOps.sitofp (F := Ideal) .f32 (IntOp.shrsi .vector (w.setWidth 32) 4#32)
/-- A byte, as a number. -/
def u8v (w : BitVec 8) : EReal := FloatOps.sitofp (F := Ideal) .f32 (w.setWidth 32)

/-- The scale group of a byte column. -/
def grp (j : Fin 768) : Fin 12 := ⟨j.val / 64, by omega⟩

/-- A dequantised weight whose nibble is `n`. -/
def deq (n : EReal) (s : (⟨2, ![152064, 12]⟩ : Shape).Idx → EReal) (z : (⟨2, ![152064, 12]⟩ : Shape).Idx → BitVec 8)
    (v : Fin 152064) (g : Fin 12) : EReal := (n - u8v (z (ix2 v g))) * s (ix2 v g)

/-- The reference model's logit: the even columns against the low nibbles and the odd columns against the high ones. -/
def zref (xe xo : (⟨2, ![256, 768]⟩ : Shape).Idx → EReal) (wr : (⟨2, ![152064, 768]⟩ : Shape).Idx → BitVec 8)
    (s : (⟨2, ![152064, 12]⟩ : Shape).Idx → EReal) (z : (⟨2, ![152064, 12]⟩ : Shape).Idx → BitVec 8)
    (r : Fin 256) (v : Fin 152064) : EReal :=
  (∑ j : Fin 768, xe (ix2 r j) * deq (nlo (wr (ix2 v j))) s z v (grp j))
    + ∑ j : Fin 768, xo (ix2 r j) * deq (nhi (wr (ix2 v j))) s z v (grp j)

/-- The largest logit of a row. -/
def rmax (z : Fin 152064 → EReal) : EReal := Finset.univ.sup z
/-- The partition function of a row against its largest logit. -/
def rsum (z : Fin 152064 → EReal) : EReal := ∑ v, Ideal.exp (z v - rmax z)
/-- The log of the sum of exponentials. -/
def rlse (z : Fin 152064 → EReal) : EReal := rmax z + Ideal.log (rsum z)
/-- The logit at the target. -/
def rhit (z : Fin 152064 → EReal) (t : BitVec 32) : EReal := ∑ v : Fin 152064, if t = BitVec.ofNat 32 v.val then z v else 0
/-- The log-probability of the target. -/
def rlogp (z : Fin 152064 → EReal) (t : BitVec 32) : EReal := rhit z t - rlse z
/-- The divergence of the policy's row from the reference model's. -/
def rkl (p q : Fin 152064 → EReal) : EReal :=
  Ideal.div (∑ v, Ideal.exp (p v - rmax p) * (p v - q v)) (rsum p) - rlse p + rlse q

end Cert.Proof
-- ==== Proof.KRead.lean ====
module
public import proofs.«01_k».proof.Proof.KDefs
public import proofs.«01_k».proof.Proof.Spec
public import Idealize.ShloMosaic.Lib.Pointwise
set_option maxRecDepth 16384
@[expose] public section
noncomputable section
namespace Cert.Proof.K
open Idealize Idealize.ShloMosaic Idealize.ShloMosaic.TcCoe
open Cert.KernelIdeal Cert.KernelIdeal.Gen

/-! The kernel's tiles, read at an index. -/

theorem κ_log2e : (Named.named κ "log2e" 0x3FB8AA3B#32 : Ideal .f32) = log2e := rfl
theorem κ_ln2 : (Named.named κ "ln2" 0x3F317218#32 : Ideal .f32) = ln2 := rfl

/-- A load of a rectangle, at an index. -/
theorem ld_ix2 {α : EltTy → Type} {e : EltTy} {N M n m a b : ℕ} (X : (⟨2, ![N, M]⟩ : Shape).Idx → α e) (inb)
    (i : Fin n) (j : Fin m) (hi : a + i.val < N) (hj : b + j.val < M) :
    View.ld X (Rect.unit ![a, b] ![n, m] inb) (ix2 i j) = X (ix2 ⟨a + i.val, hi⟩ ⟨b + j.val, hj⟩) := by
  refine congrArg X ?_
  funext d
  fin_cases d
  · refine Fin.ext ?_
    show a + 1 * i.val = a + i.val
    omega
  · refine Fin.ext ?_
    show b + 1 * j.val = b + j.val
    omega

theorem accp_at (c : Fin 3) (xc : Vec Ideal S256x1536 .fp8e4m3) (wp : Vec Ideal S1536x1536 .fp8e4m3) (r : Fin 256) (a : Fin 512) :
    accp c xc wp (ix2 r a) = ∑ k : Fin 1536, xc (ix2 r k) * wp (ix2 ⟨512 * c.val + a.val, by omega⟩ k) := by
  pointwise [accp]

theorem product_at (x : FVec Ideal S256x1536 .bf16) (w : FVec Ideal S1536x512 .bf16) (r : Fin 256) (a : Fin 512) :
    matmul dot_S256x1536_S1536x512_S256x512_1_0_0_1_n_n none x w (constant S256x512 .f32 0x00000000#32 : FVec Ideal S256x512 .f32) (ix2 r a)
      = ∑ k : Fin 1536, x (ix2 r k) * w (ix2 k a) := by
  pointwise

theorem accq_at (c : Fin 3) (xr : FVec Ideal S256x1536 .bf16) (wr : Vec Ideal S1536x768 .i8) (s2 z2 : FVec Ideal S12x1536 .bf16)
    (r : Fin 256) (a : Fin 512) :
    accq c xr wr s2 z2 (ix2 r a) = ∑ k : Fin 1536, xr (ix2 r k) *
      piece (k0_pay59 (View.ld (Val := Elt Ideal) wr (Rect.unit ![512 * c.val, 0] S512x768.size (inb_wr c)))) (szRow c z2) (szRow c s2)
        ⟨k.val / 16, by omega⟩ (ix2 ⟨k.val % 16, by omega⟩ a) := by
  unfold accq
  rw [product_at]
  refine Finset.sum_congr rfl fun k _ => ?_
  refine congrArg (xr (ix2 r k) * ·) ?_
  exact concatenate_ofFn_apply (t := S1536x512) (s₁ := S16x512) 0 (fun n : Fin 96 => piece (k0_pay59 (View.ld (Val := Elt Ideal) wr
    (Rect.unit ![512 * c.val, 0] S512x768.size (inb_wr c)))) (szRow (F := Ideal) c z2) (szRow (F := Ideal) c s2) n) (concat96 _) rfl 16 rfl (ix2 k a)
    ⟨k.val / 16, by omega⟩ rfl (ix2 ⟨k.val % 16, by omega⟩ a) rfl (fun d hd => by fin_cases d <;> first | rfl | exact absurd rfl hd)

theorem piece_at (u4 : IVec S1536x512 32) (zr sr : Fin 12 → FVec Ideal S1x512 .bf16) (n : Fin 96) (i : Fin 16) (a : Fin 512) :
    piece u4 zr sr n (ix2 i a) = (FloatOps.sitofp (F := Ideal) .bf16 (u4 (ix2 ⟨16 * n.val + i.val, by omega⟩ a))
      - zr ⟨n.val / 8, by omega⟩ (ix2 0 a)) * sr ⟨n.val / 8, by omega⟩ (ix2 0 a) := by
  have h : (⟨128 * (n.val / 8) + (16 * (n.val % 8) + i.val), by omega⟩ : Fin 1536) = ⟨16 * n.val + i.val, by omega⟩ :=
    Fin.ext (by show 128 * (n.val / 8) + (16 * (n.val % 8) + i.val) = 16 * n.val + i.val; omega)
  pointwise [piece]
  rw [h]

theorem pay59_at (w : Vec Ideal S512x768 .i8) (j : Fin 768) (p : Fin 2) (a : Fin 512) :
    k0_pay59 w (ix2 ⟨2 * j.val + p.val, by omega⟩ a) = if p = 0 then IntOp.andi ((w (ix2 a j)).setWidth 32) 15#32
      else IntOp.shrsi .vector ((w (ix2 a j)).setWidth 32) 4#32 := by
  pointwise [k0_pay59]
  fin_cases p <;> rfl

theorem zpT_at (c : Fin 3) (xc : Vec Ideal S256x1536 .fp8e4m3) (wp : Vec Ideal S1536x1536 .fp8e4m3) (ws : Vec Ideal S1x1536 .f32)
    (coef : Lanes Ideal) (u : Fin 4) (r : Fin 256) (l : Fin 128) :
    zpT c xc wp ws coef u (ix2 r l) = accp c xc wp (ix2 r ⟨128 * u.val + l.val, by omega⟩)
      * ws (ix2 0 ⟨512 * c.val + (128 * u.val + l.val), by omega⟩) * coef (ix2 r l) := by
  pointwise [zpT]

theorem zqT_at (c : Fin 3) (xr : FVec Ideal S256x1536 .bf16) (wr : Vec Ideal S1536x768 .i8) (s2 z2 : FVec Ideal S12x1536 .bf16)
    (u : Fin 4) (r : Fin 256) (l : Fin 128) :
    zqT c xr wr s2 z2 u (ix2 r l) = accq c xr wr s2 z2 (ix2 r ⟨128 * u.val + l.val, by omega⟩) * log2e := by
  pointwise [zqT]
  rfl

theorem hitT_at (c : Fin 3) (i : BitVec 32) (tgt : IVec S256x128 32) (u : Fin 4) (r : Fin 256) (l : Fin 128) :
    hitT c i tgt u (ix2 r l) = IntOp.cmpi .eq (BitVec.ofNat 32 l.val + BitVec.ofNat 32 (128 * u.val))
      (tgt (ix2 r l) - (i * 1536#32 + BitVec.ofNat 32 (512 * c.val))) := by
  pointwise [hitT]
  rfl

end Cert.Proof.K
-- ==== Proof.KStep.lean ====
module
public import proofs.«01_k».proof.Proof.KRead
set_option maxRecDepth 16384
@[expose] public section
noncomputable section
namespace Cert.Proof.K
open Idealize Idealize.ShloMosaic Idealize.ShloMosaic.TcCoe
open Cert.KernelIdeal Cert.KernelIdeal.Gen

/-! # One grid step over the extended reals

A row and a lane see the vocabulary words `128 n + l` in order; the seven running vectors hold what those logits give. -/

/-- What the running vectors hold at row `r` and lane `l` once the first `N` logits are seen: `a` and `b` are the two
models' logits in base-2 units, and `hit` marks the target. -/
structure Inv (a b : ℕ → EReal) (hit : ℕ → Prop) [DecidablePred hit] (N : ℕ) (st : St Ideal) (r : Fin 256) (l : Fin 128) : Prop where
  mp : st.mp (ix2 r l) = wmax a N
  sp : st.sp (ix2 r l) = wsum a (fun _ => 1) N (wmax a N)
  ka : st.ka (ix2 r l) = wsum a (fun n => a n - b n) N (wmax a N)
  mq : st.mq (ix2 r l) = wmax b N
  sq : st.sq (ix2 r l) = wsum b (fun _ => 1) N (wmax b N)
  tp : st.tp (ix2 r l) = whit a hit N
  tq : st.tq (ix2 r l) = whit b hit N

theorem mNew_at {a : ℕ → EReal} {N : ℕ} {m : Lanes Ideal} {z : Fin 4 → Lanes Ideal} {r : Fin 256} {l : Fin 128}
    (hm : m (ix2 r l) = wmax a N) (hz : ∀ u : Fin 4, z u (ix2 r l) = a (N + u.val)) : mNew m z (ix2 r l) = wmax a (N + 4) := by
  rw [← wmax_four, ← hm]
  show max (max (max (max (m (ix2 r l)) (z 0 (ix2 r l))) (z 1 (ix2 r l))) (z 2 (ix2 r l))) (z 3 (ix2 r l)) = _
  rw [hz, hz, hz, hz]; rfl

theorem sNew_at {a : ℕ → EReal} {N : ℕ} {s m n : Lanes Ideal} {z : Fin 4 → Lanes Ideal} {r : Fin 256} {l : Fin 128}
    (hs : s (ix2 r l) = wsum a (fun _ => 1) N (wmax a N)) (hm : m (ix2 r l) = wmax a N) (hn : n (ix2 r l) = wmax a (N + 4))
    (hz : ∀ u : Fin 4, z u (ix2 r l) = a (N + u.val)) :
    sNew s m n z (ix2 r l) = wsum a (fun _ => 1) (N + 4) (wmax a (N + 4)) := by
  rw [← wsum_four]
  show ((((s (ix2 r l) * wt2 (m (ix2 r l)) (n (ix2 r l)) + wt2 (z 0 (ix2 r l)) (n (ix2 r l))) + wt2 (z 1 (ix2 r l)) (n (ix2 r l)))
    + wt2 (z 2 (ix2 r l)) (n (ix2 r l))) + wt2 (z 3 (ix2 r l)) (n (ix2 r l)) : EReal) = _
  rw [hz, hz, hz, hz, hs, hm, hn]
  simp only [mul_one]; rfl

theorem kNew_at {a b : ℕ → EReal} {N : ℕ} {k m n : Lanes Ideal} {z w : Fin 4 → Lanes Ideal} {r : Fin 256} {l : Fin 128}
    (hk : k (ix2 r l) = wsum a (fun n => a n - b n) N (wmax a N)) (hm : m (ix2 r l) = wmax a N) (hn : n (ix2 r l) = wmax a (N + 4))
    (hz : ∀ u : Fin 4, z u (ix2 r l) = a (N + u.val)) (hw : ∀ u : Fin 4, w u (ix2 r l) = b (N + u.val)) :
    kNew k m n z w (ix2 r l) = wsum a (fun n => a n - b n) (N + 4) (wmax a (N + 4)) := by
  rw [← wsum_four]
  show ((((k (ix2 r l) * wt2 (m (ix2 r l)) (n (ix2 r l)) + wt2 (z 0 (ix2 r l)) (n (ix2 r l)) * (z 0 (ix2 r l) - w 0 (ix2 r l)))
    + wt2 (z 1 (ix2 r l)) (n (ix2 r l)) * (z 1 (ix2 r l) - w 1 (ix2 r l)))
    + wt2 (z 2 (ix2 r l)) (n (ix2 r l)) * (z 2 (ix2 r l) - w 2 (ix2 r l)))
    + wt2 (z 3 (ix2 r l)) (n (ix2 r l)) * (z 3 (ix2 r l) - w 3 (ix2 r l)) : EReal) = _
  rw [hz, hz, hz, hz, hw, hw, hw, hw, hk, hm, hn]; rfl

/-- A selection by a word that says whether `p` holds. -/
theorem select_of {p : Prop} [Decidable p] {c : BitVec 1} (h : c = if p then 1#1 else 0#1) (x y : EReal) :
    Scalar.select (α := EReal) c x y = if p then x else y := by
  subst h; split_ifs <;> rfl

theorem tNew_at {a : ℕ → EReal} {hit : ℕ → Prop} [DecidablePred hit] {N : ℕ} {t : Lanes Ideal} {h : Fin 4 → IVec S256x128 1}
    {z : Fin 4 → Lanes Ideal} {r : Fin 256} {l : Fin 128} (one : ∀ m n, hit m → hit n → m = n)
    (ht : t (ix2 r l) = whit a hit N) (hh : ∀ u : Fin 4, h u (ix2 r l) = if hit (N + u.val) then 1#1 else 0#1)
    (hz : ∀ u : Fin 4, z u (ix2 r l) = a (N + u.val)) : tNew t h z (ix2 r l) = whit a hit (N + 4) := by
  rw [← whit_four a hit N one, ← ht]
  show Scalar.select (α := EReal) (h 3 (ix2 r l)) (z 3 (ix2 r l)) (Scalar.select (α := EReal) (h 2 (ix2 r l)) (z 2 (ix2 r l))
    (Scalar.select (α := EReal) (h 1 (ix2 r l)) (z 1 (ix2 r l)) (Scalar.select (α := EReal) (h 0 (ix2 r l)) (z 0 (ix2 r l)) (t (ix2 r l))))) = _
  rw [select_of (hh 3), select_of (hh 2), select_of (hh 1), select_of (hh 0), hz, hz, hz, hz]; rfl

/-- Four further logits. -/
theorem upd_at {a b : ℕ → EReal} {hit : ℕ → Prop} [DecidablePred hit] {N : ℕ} {z w : Fin 4 → Lanes Ideal} {h : Fin 4 → IVec S256x128 1}
    {st : St Ideal} {r : Fin 256} {l : Fin 128} (one : ∀ m n, hit m → hit n → m = n) (I : Inv a b hit N st r l)
    (hz : ∀ u : Fin 4, z u (ix2 r l) = a (N + u.val)) (hw : ∀ u : Fin 4, w u (ix2 r l) = b (N + u.val))
    (hh : ∀ u : Fin 4, h u (ix2 r l) = if hit (N + u.val) then 1#1 else 0#1) : Inv a b hit (N + 4) (upd z w h st) r l := by
  have e : ∀ x : Lanes Ideal, cp x = x := fun x => shapeCast_self x _
  refine ⟨?_, ?_, ?_, ?_, ?_, ?_, ?_⟩ <;> (unfold upd; simp only [e])
  · exact mNew_at I.mp hz
  · exact sNew_at I.sp I.mp (mNew_at I.mp hz) hz
  · exact kNew_at I.ka I.mp (mNew_at I.mp hz) hz hw
  · exact mNew_at I.mq hw
  · exact sNew_at I.sq I.mq (mNew_at I.mq hw) hw
  · exact tNew_at one I.tp hh hz
  · exact tNew_at one I.tq hh hw

theorem stA_at (a b : ℕ → EReal) (hit : ℕ → Prop) [DecidablePred hit] (r : Fin 256) (l : Fin 128) :
    Inv a b hit 0 (stA (F := Ideal)) r l := by
  have e : ∀ x : Lanes Ideal, cp x = x := fun x => shapeCast_self x _
  have z : (Ideal.ofBits .f32 0x00000000#32 : EReal) = 0 := Ideal.ofBits_zero_f32
  have n : (Ideal.ofBits .f32 0xFF800000#32 : EReal) = ⊥ := by simp [Ideal.ofBits, Ideal.ieee]
  refine ⟨?_, ?_, ?_, ?_, ?_, ?_, ?_⟩ <;> (unfold stA; simp only [e])
  · exact n
  · exact z
  · exact z
  · exact n
  · exact z
  · exact z
  · exact z

/-! The logits of a step, from what its blocks hold. -/

/-- Logit `n` of lane `l` in base-2 units. -/
def lane (z : Fin 152064 → EReal) (l : Fin 128) (n : ℕ) : EReal :=
  if h : 128 * n + l.val < 152064 then log2e * z ⟨128 * n + l.val, h⟩ else 0

/-- The target is word `128 n + l`. -/
def laneHit (t : BitVec 32) (l : Fin 128) (n : ℕ) : Prop := 128 * n + l.val < 152064 ∧ t = BitVec.ofNat 32 (128 * n + l.val)

instance (t : BitVec 32) (l : Fin 128) : DecidablePred (laneHit t l) := fun _ => inferInstanceAs (Decidable (_ ∧ _))

theorem laneHit_one (t : BitVec 32) (l : Fin 128) (m n : ℕ) (h : laneHit t l m) (h' : laneHit t l n) : m = n := by
  have := congrArg BitVec.toNat (h.2.symm.trans h'.2)
  rw [BitVec.toNat_ofNat, BitVec.toNat_ofNat, Nat.mod_eq_of_lt (by have := h.1; omega), Nat.mod_eq_of_lt (by have := h'.1; omega)] at this
  omega

/-- What a row's logits are made of: its codes, its scale and its target; the weights' tables. -/
structure Tab where
  code : Fin 256 → Fin 1536 → EReal
  scale : Fin 256 → EReal
  xr : Fin 256 → Fin 1536 → EReal
  tgt : Fin 256 → BitVec 32
  wp : (⟨2, ![152064, 1536]⟩ : Shape).Idx → EReal
  ws : Fin 152064 → EReal
  wr : (⟨2, ![152064, 768]⟩ : Shape).Idx → BitVec 8
  s : (⟨2, ![152064, 12]⟩ : Shape).Idx → EReal
  z : (⟨2, ![152064, 12]⟩ : Shape).Idx → BitVec 8

/-- The policy's logit. -/
def Tab.p (T : Tab) (r : Fin 256) (v : Fin 152064) : EReal := (∑ k : Fin 1536, T.code r k * T.wp (ix2 v k)) * (T.scale r * T.ws v)

/-- The even columns of the reference model's states. -/
def Tab.ev (T : Tab) : (⟨2, ![256, 768]⟩ : Shape).Idx → EReal := fun i => T.xr (i 0) ⟨2 * (i 1).val, by have : (i 1).val < 768 := (i 1).isLt; omega⟩
/-- The odd columns of the reference model's states. -/
def Tab.od (T : Tab) : (⟨2, ![256, 768]⟩ : Shape).Idx → EReal := fun i => T.xr (i 0) ⟨2 * (i 1).val + 1, by have : (i 1).val < 768 := (i 1).isLt; omega⟩

/-- The reference model's logit. -/
def Tab.q (T : Tab) (r : Fin 256) (v : Fin 152064) : EReal := zref T.ev T.od T.wr T.s T.z r v

/-- The blocks of step `t`. -/
structure Blocks (T : Tab) (t : ℕ) (ht : t < 99) (i : BitVec 32) (xr : FVec Ideal S256x1536 .bf16) (xc : Vec Ideal S256x1536 .fp8e4m3)
    (coef : Lanes Ideal) (tgt : IVec S256x128 32) (wp : Vec Ideal S1536x1536 .fp8e4m3) (ws : Vec Ideal S1x1536 .f32)
    (wr : Vec Ideal S1536x768 .i8) (s2 z2 : FVec Ideal S12x1536 .bf16) : Prop where
  i : i = BitVec.ofNat 32 t
  xr : ∀ r k, xr (ix2 r k) = T.xr r k
  xc : ∀ r k, xc (ix2 r k) = T.code r k
  coef : ∀ r l, coef (ix2 r l) = T.scale r * log2e
  tgt : ∀ r l, tgt (ix2 r l) = T.tgt r
  wp : ∀ (a k : Fin 1536), wp (ix2 a k) = T.wp (ix2 ⟨1536 * t + a.val, by omega⟩ k)
  ws : ∀ (a : Fin 1536), ws (ix2 0 a) = T.ws ⟨1536 * t + a.val, by omega⟩
  wr : ∀ (a : Fin 1536) (j : Fin 768), wr (ix2 a j) = T.wr (ix2 ⟨1536 * t + a.val, by omega⟩ j)
  s2 : ∀ (g : Fin 12) (a : Fin 1536), s2 (ix2 g a) = T.s (ix2 ⟨1536 * t + a.val, by omega⟩ g)
  z2 : ∀ (g : Fin 12) (a : Fin 1536), z2 (ix2 g a) = u8v (T.z (ix2 ⟨1536 * t + a.val, by omega⟩ g))

/-- A sum over all columns, as the even columns' and the odd columns'. -/
theorem sum_pairs (f : Fin 1536 → EReal) : (∑ k, f k) = (∑ j : Fin 768, f ⟨2 * j.val, by omega⟩) + ∑ j : Fin 768, f ⟨2 * j.val + 1, by omega⟩ := by
  rw [← Finset.sum_add_distrib, ← (finProdFinEquiv (m := 768) (n := 2)).sum_comp f, Fintype.sum_prod_type]
  refine Finset.sum_congr rfl fun j _ => ?_
  rw [Fin.sum_univ_two]
  refine congrArg₂ _ (congrArg f (Fin.ext ?_)) (congrArg f (Fin.ext ?_))
  · show 0 + 2 * j.val = 2 * j.val; omega
  · show 1 + 2 * j.val = 2 * j.val + 1; omega

variable {T : Tab} {t : ℕ} {ht : t < 99} {i : BitVec 32} {xr : FVec Ideal S256x1536 .bf16} {xc : Vec Ideal S256x1536 .fp8e4m3}
    {coef : Lanes Ideal} {tgt : IVec S256x128 32} {wp : Vec Ideal S1536x1536 .fp8e4m3} {ws : Vec Ideal S1x1536 .f32}
    {wr : Vec Ideal S1536x768 .i8} {s2 z2 : FVec Ideal S12x1536 .bf16}

/-- The word that tile `u` of sub-block `c` holds at lane `l`. -/
theorem word_lt (t : ℕ) (ht : t < 99) (c : Fin 3) (u : Fin 4) (l : Fin 128) : 128 * (12 * t + 4 * c.val + u.val) + l.val < 152064 := by omega

theorem zp_lane (B : Blocks T t ht i xr xc coef tgt wp ws wr s2 z2) (c : Fin 3) (u : Fin 4) (r : Fin 256) (l : Fin 128) :
    zpT c xc wp ws coef u (ix2 r l) = lane (T.p r) l (12 * t + 4 * c.val + u.val) := by
  rw [zpT_at, accp_at, lane, dif_pos (word_lt t ht c u l), Tab.p, B.coef, B.ws]
  have hv : (⟨1536 * t + (512 * c.val + (128 * u.val + l.val)), by omega⟩ : Fin 152064) = ⟨128 * (12 * t + 4 * c.val + u.val) + l.val, word_lt t ht c u l⟩ :=
    Fin.ext (by show 1536 * t + (512 * c.val + (128 * u.val + l.val)) = 128 * (12 * t + 4 * c.val + u.val) + l.val; omega)
  rw [hv, ← mul_assoc log2e, mul_comm log2e, mul_assoc, mul_assoc]
  refine congr (congrArg _ (Finset.sum_congr rfl fun k _ => ?_)) (by ac_rfl)
  rw [B.xc, B.wp, hv]

theorem piece_term (B : Blocks T t ht i xr xc coef tgt wp ws wr s2 z2) (c : Fin 3) (a : Fin 512) (j : Fin 768) (p : Fin 2) (k : Fin 1536)
    (hk : k.val = 2 * j.val + p.val) (v : Fin 152064) (hv : v.val = 1536 * t + (512 * c.val + a.val)) :
    piece (F := Ideal) (k0_pay59 (View.ld (Val := Elt Ideal) wr (Rect.unit ![512 * c.val, 0] S512x768.size (inb_wr c)))) (szRow c z2) (szRow c s2)
        ⟨k.val / 16, by omega⟩ (ix2 ⟨k.val % 16, by omega⟩ a)
      = deq (if p = 0 then nlo (T.wr (ix2 v j)) else nhi (T.wr (ix2 v j))) T.s T.z v (grp j) := by
  rw [show v = ⟨1536 * t + (512 * c.val + a.val), by omega⟩ from Fin.ext hv]
  have hk' : (⟨16 * (k.val / 16) + k.val % 16, by omega⟩ : Fin 1536) = ⟨2 * j.val + p.val, by omega⟩ :=
    Fin.ext (by show 16 * (k.val / 16) + k.val % 16 = 2 * j.val + p.val; omega)
  have hg : (⟨k.val / 16 / 8, by omega⟩ : Fin 12) = grp j := Fin.ext (by show k.val / 16 / 8 = j.val / 64; omega)
  have hs : ∀ (x : FVec Ideal S12x1536 .bf16) (g : Fin 12), szRow c x g (ix2 0 a) = x (ix2 g ⟨512 * c.val + a.val, by omega⟩) := by
    intro x g; exact ld_ix2 (α := Elt Ideal) (e := .bf16) (N := 12) (M := 1536) (n := 1) (m := 512) (a := g.val) (b := 512 * c.val) x _ 0 a
      g.isLt (by omega)
  have hw : View.ld (Val := Elt Ideal) wr (Rect.unit ![512 * c.val, 0] S512x768.size (inb_wr c)) (ix2 a j) =
      T.wr (ix2 ⟨1536 * t + (512 * c.val + a.val), by omega⟩ j) := by
    refine (ld_ix2 (α := Elt Ideal) wr _ a j (by omega) (by omega)).trans ?_
    have : (⟨0 + j.val, by omega⟩ : Fin 768) = j := Fin.ext (Nat.zero_add _)
    rw [this]; exact B.wr _ _
  rw [piece_at, hk', pay59_at, hg, hs, hs, B.s2, B.z2, hw, deq]
  fin_cases p <;> rfl

theorem accq_word (B : Blocks T t ht i xr xc coef tgt wp ws wr s2 z2) (c : Fin 3) (r : Fin 256) (a : Fin 512) (v : Fin 152064)
    (hv : v.val = 1536 * t + (512 * c.val + a.val)) : accq c xr wr s2 z2 (ix2 r a) = T.q r v := by
  have he := fun j : Fin 768 => piece_term B c a j 0 ⟨2 * j.val, by omega⟩ rfl v hv
  have ho := fun j : Fin 768 => piece_term B c a j 1 ⟨2 * j.val + 1, by omega⟩ rfl v hv
  rw [accq_at, sum_pairs]
  have e1 : ∀ k, xr (ix2 r k) = T.xr r k := fun k => B.xr r k
  rw [Tab.q, zref]
  congr 1
  · exact Finset.sum_congr rfl fun j _ => by rw [he, e1]; rfl
  · exact Finset.sum_congr rfl fun j _ => by rw [ho, e1]; rfl

theorem zq_lane (B : Blocks T t ht i xr xc coef tgt wp ws wr s2 z2) (c : Fin 3) (u : Fin 4) (r : Fin 256) (l : Fin 128) :
    zqT c xr wr s2 z2 u (ix2 r l) = lane (T.q r) l (12 * t + 4 * c.val + u.val) := by
  rw [zqT_at, lane, dif_pos (word_lt t ht c u l), mul_comm]
  refine congrArg (log2e * ·) (accq_word B c r _ _ ?_)
  show 128 * (12 * t + 4 * c.val + u.val) + l.val = 1536 * t + (512 * c.val + (128 * u.val + l.val))
  omega

theorem hit_lane (B : Blocks T t ht i xr xc coef tgt wp ws wr s2 z2) (c : Fin 3) (u : Fin 4) (r : Fin 256) (l : Fin 128) :
    hitT c i tgt u (ix2 r l) = if laneHit (T.tgt r) l (12 * t + 4 * c.val + u.val) then 1#1 else 0#1 := by
  have e : ∀ x y : BitVec 32, IntOp.cmpi .eq x y = if x = y then 1#1 else 0#1 := fun x y => by
    show BitVec.ofBool (x == y) = _
    by_cases h : x = y
    · rw [if_pos h, beq_iff_eq.mpr h]; rfl
    · rw [if_neg h, beq_eq_false_iff_ne.mpr h]; rfl
  rw [hitT_at, B.tgt, B.i, e]
  refine if_congr ?_ rfl rfl
  rw [laneHit, and_iff_right (word_lt t ht c u l)]
  have h1 : BitVec.ofNat 32 (128 * (12 * t + 4 * c.val + u.val) + l.val) = (BitVec.ofNat 32 l.val + BitVec.ofNat 32 (128 * u.val))
      + (BitVec.ofNat 32 t * 1536#32 + BitVec.ofNat 32 (512 * c.val)) := by
    have : 128 * (12 * t + 4 * c.val + u.val) + l.val = (l.val + 128 * u.val) + (t * 1536 + 512 * c.val) := by ring
    have hm : BitVec.ofNat 32 (t * 1536) = BitVec.ofNat 32 t * 1536#32 := BitVec.ofNat_mul ..
    rw [this, BitVec.ofNat_add, BitVec.ofNat_add, BitVec.ofNat_add, hm]
  rw [h1]
  constructor
  · intro h; rw [h, BitVec.sub_add_cancel]
  · intro h; rw [h, BitVec.add_sub_cancel]

theorem sub_at (B : Blocks T t ht i xr xc coef tgt wp ws wr s2 z2) (c : Fin 3) {st : St Ideal} {r : Fin 256} {l : Fin 128}
    (I : Inv (lane (T.p r) l) (lane (T.q r) l) (laneHit (T.tgt r) l) (12 * t + 4 * c.val) st r l) :
    Inv (lane (T.p r) l) (lane (T.q r) l) (laneHit (T.tgt r) l) (12 * t + 4 * c.val + 4) (sub c i xr xc coef tgt wp ws wr s2 z2 st) r l :=
  upd_at (laneHit_one _ _) I (fun u => zp_lane B c u r l) (fun u => zq_lane B c u r l) (fun u => hit_lane B c u r l)

/-- One grid step sees twelve further logits. -/
theorem step_at (B : Blocks T t ht i xr xc coef tgt wp ws wr s2 z2) {st : St Ideal} {r : Fin 256} {l : Fin 128}
    (I : Inv (lane (T.p r) l) (lane (T.q r) l) (laneHit (T.tgt r) l) (12 * t) st r l) :
    Inv (lane (T.p r) l) (lane (T.q r) l) (laneHit (T.tgt r) l) (12 * (t + 1)) (step i xr xc coef tgt wp ws wr s2 z2 st) r l :=
  sub_at B 2 (sub_at B 1 (sub_at B 0 I))

end Cert.Proof.K
-- ==== Proof.KBlocks.lean ====
module
public import proofs.«01_k».proof.Proof.KStep
public import proofs.«01_k».proof.Proof.Gen.KernelIdeal.Value
public import Idealize.ShloMosaic.Lib.StableHlo.ReadAt
set_option maxRecDepth 16384
@[expose] public section
noncomputable section
namespace Cert.Proof.K
open Idealize Idealize.ShloMosaic Idealize.ShloMosaic.TcCoe
open Cert.KernelIdeal Cert.KernelIdeal.Gen

/-! # What the kernel's blocks hold

Each block of a grid step, entry by entry, as the arguments' entries. -/

variable (m : (ℓ : Loc nD τ sig) → Buf (Elt Ideal) ℓ) (c : Dev nD)

theorem at0 : ∀ t : Fin grid0.N, win0_0.index t 0 = 0 ∧ win0_0.index t 1 = 0 ∧ win0_0.index t 2 = 0 := by decide +kernel
theorem at1 : ∀ t : Fin grid0.N, win0_1.index t 0 = 0 ∧ win0_1.index t 1 = 0 := by decide +kernel
theorem at2 : ∀ t : Fin grid0.N, win0_2.index t 0 = t.val ∧ win0_2.index t 1 = 0 := by decide +kernel
theorem at3 : ∀ t : Fin grid0.N, win0_3.index t 0 = 0 ∧ win0_3.index t 1 = t.val := by decide +kernel
theorem at4 : ∀ t : Fin grid0.N, win0_4.index t 0 = t.val ∧ win0_4.index t 1 = 0 := by decide +kernel
theorem at5 : ∀ t : Fin grid0.N, win0_5.index t 0 = 0 ∧ win0_5.index t 1 = t.val := by decide +kernel
theorem at6 : ∀ t : Fin grid0.N, win0_6.index t 0 = 0 ∧ win0_6.index t 1 = t.val := by decide +kernel
theorem at7 : ∀ t : Fin grid0.N, win0_7.index t 0 = 0 ∧ win0_7.index t 1 = 0 := by decide +kernel
theorem coord : ∀ t : Fin grid0.N, ((grid0.coords t) 0).val = t.val := by decide +kernel

/-- The reference model's states, as the host reshapes them. -/
theorem V_states (r : Fin 256) (k : Fin 1536) : V m c main_v0 (ix2 r k) = m ((c : Thread nD τ).loc main_arg1) (ix3 (rb r) (rs r) k) := by
  unfold V hostOps0
  after_reads_at
  rfl

theorem V_ws (v : Fin 152064) : V m c main_v1 (ix2 0 v) = m ((c : Thread nD τ).loc main_arg3) (ix1 v) := by
  unfold V hostOps0
  after_reads_at

theorem V_s (g : Fin 12) (v : Fin 152064) : V m c main_v2 (ix2 g v) = m ((c : Thread nD τ).loc main_arg5) (ix2 v g) := by
  unfold V hostOps0
  after_reads_at

theorem V_z (g : Fin 12) (v : Fin 152064) : V m c main_v3 (ix2 g v) = m ((c : Thread nD τ).loc main_arg6) (ix2 v g) := by
  unfold V hostOps0
  after_reads_at

theorem blk0 (t : Fin cfg0.N) : iblk m c 0 t = m ((c : Thread nD τ).loc main_arg0) := by
  rw [← V_main_arg0 m c]
  funext j
  unfold iblk; rw [View.read_apply]
  show V m c main_arg0 _ = V m c main_arg0 _
  congr 1; funext a; apply Fin.ext
  match a with
  | ⟨0, _⟩ => show win0_0.index t 0 * 2 + 1 * (j 0).val = (j 0).val; rw [(at0 t).1]; omega
  | ⟨1, _⟩ => show win0_0.index t 1 * 128 + 1 * (j 1).val = (j 1).val; rw [(at0 t).2.1]; omega
  | ⟨2, _⟩ => show win0_0.index t 2 * 1536 + 1 * (j 2).val = (j 2).val; rw [(at0 t).2.2]; omega

theorem blk7 (t : Fin cfg0.N) : iblk m c 7 t = m ((c : Thread nD τ).loc main_arg7) := by
  rw [← V_main_arg7 m c]
  funext j
  unfold iblk; rw [View.read_apply]
  show V m c main_arg7 _ = V m c main_arg7 _
  congr 1; funext a; apply Fin.ext
  match a with
  | ⟨0, _⟩ => show win0_7.index t 0 * 2 + 1 * (j 0).val = (j 0).val; rw [(at7 t).1]; omega
  | ⟨1, _⟩ => show win0_7.index t 1 * 128 + 1 * (j 1).val = (j 1).val; rw [(at7 t).2]; omega

theorem blk1 (t : Fin cfg0.N) (r : Fin 256) (k : Fin 1536) : iblk m c 1 t (ix2 r k) = m ((c : Thread nD τ).loc main_arg1) (ix3 (rb r) (rs r) k) := by
  rw [← V_states m c]
  unfold iblk; rw [View.read_apply]
  show V m c main_v0 _ = V m c main_v0 _
  congr 1; funext a; apply Fin.ext
  match a with
  | ⟨0, _⟩ => show win0_1.index t 0 * 256 + 1 * r.val = r.val; rw [(at1 t).1]; omega
  | ⟨1, _⟩ => show win0_1.index t 1 * 1536 + 1 * k.val = k.val; rw [(at1 t).2]; omega

theorem blk2 (t : Fin cfg0.N) (ht : t.val < 99) (a k : Fin 1536) :
    iblk m c 2 t (ix2 a k) = m ((c : Thread nD τ).loc main_arg2) (ix2 ⟨1536 * t.val + a.val, by omega⟩ k) := by
  rw [← V_main_arg2 m c]
  unfold iblk; rw [View.read_apply]
  show V m c main_arg2 _ = V m c main_arg2 _
  congr 1; funext b; apply Fin.ext
  match b with
  | ⟨0, _⟩ => show win0_2.index t 0 * 1536 + 1 * a.val = 1536 * t.val + a.val; rw [(at2 t).1]; omega
  | ⟨1, _⟩ => show win0_2.index t 1 * 1536 + 1 * k.val = k.val; rw [(at2 t).2]; omega

theorem blk3 (t : Fin cfg0.N) (ht : t.val < 99) (a : Fin 1536) :
    iblk m c 3 t (ix2 0 a) = m ((c : Thread nD τ).loc main_arg3) (ix1 ⟨1536 * t.val + a.val, by omega⟩) := by
  rw [← V_ws m c]
  unfold iblk; rw [View.read_apply]
  show V m c main_v1 _ = V m c main_v1 _
  congr 1; funext b; apply Fin.ext
  match b with
  | ⟨0, _⟩ => show win0_3.index t 0 * 1 + 1 * 0 = 0; rw [(at3 t).1]
  | ⟨1, _⟩ => show win0_3.index t 1 * 1536 + 1 * a.val = 1536 * t.val + a.val; rw [(at3 t).2]; omega

theorem blk4 (t : Fin cfg0.N) (ht : t.val < 99) (a : Fin 1536) (j : Fin 768) :
    iblk m c 4 t (ix2 a j) = m ((c : Thread nD τ).loc main_arg4) (ix2 ⟨1536 * t.val + a.val, by omega⟩ j) := by
  rw [← V_main_arg4 m c]
  unfold iblk; rw [View.read_apply]
  show V m c main_arg4 _ = V m c main_arg4 _
  congr 1; funext b; apply Fin.ext
  match b with
  | ⟨0, _⟩ => show win0_4.index t 0 * 1536 + 1 * a.val = 1536 * t.val + a.val; rw [(at4 t).1]; omega
  | ⟨1, _⟩ => show win0_4.index t 1 * 768 + 1 * j.val = j.val; rw [(at4 t).2]; omega

theorem blk5 (t : Fin cfg0.N) (ht : t.val < 99) (g : Fin 12) (a : Fin 1536) :
    iblk m c 5 t (ix2 g a) = m ((c : Thread nD τ).loc main_arg5) (ix2 ⟨1536 * t.val + a.val, by omega⟩ g) := by
  rw [← V_s m c]
  unfold iblk; rw [View.read_apply]
  show V m c main_v2 _ = V m c main_v2 _
  congr 1; funext b; apply Fin.ext
  match b with
  | ⟨0, _⟩ => show win0_5.index t 0 * 12 + 1 * g.val = g.val; rw [(at5 t).1]; omega
  | ⟨1, _⟩ => show win0_5.index t 1 * 1536 + 1 * a.val = 1536 * t.val + a.val; rw [(at5 t).2]; omega

theorem blk6 (t : Fin cfg0.N) (ht : t.val < 99) (g : Fin 12) (a : Fin 1536) :
    iblk m c 6 t (ix2 g a) = m ((c : Thread nD τ).loc main_arg6) (ix2 ⟨1536 * t.val + a.val, by omega⟩ g) := by
  rw [← V_z m c]
  unfold iblk; rw [View.read_apply]
  show V m c main_v3 _ = V m c main_v3 _
  congr 1; funext b; apply Fin.ext
  match b with
  | ⟨0, _⟩ => show win0_6.index t 0 * 12 + 1 * g.val = g.val; rw [(at6 t).1]; omega
  | ⟨1, _⟩ => show win0_6.index t 1 * 1536 + 1 * a.val = 1536 * t.val + a.val; rw [(at6 t).2]; omega

end Cert.Proof.K
-- ==== Proof.KAcc.lean ====
module
public import proofs.«01_k».proof.Proof.KBlocks
public import proofs.«01_k».proof.Proof.KStep
public import proofs.«01_k».proof.Proof.Gen.KernelIdeal.Value
set_option maxRecDepth 16384
@[expose] public section
noncomputable section
namespace Cert.Proof.K
open Idealize Idealize.ShloMosaic Idealize.ShloMosaic.TcCoe
open Cert.KernelIdeal Cert.KernelIdeal.Gen Cert.KernelIdeal.Value

/-! # What a grid step leaves, by name -/

variable (m : (ℓ : Loc nD τ sig) → Buf (Elt Ideal) ℓ) (c : Dev nD)

/-- What a step leaves: five results and ten scratch arrays. -/
abbrev Acc : Type := Vec Ideal S2x128 .f32 × Vec Ideal S2x128 .f32 × Vec Ideal S2x128 .f32 × Vec Ideal S2x128x1536 .fp8e4m3 × Vec Ideal S2x128 .f32 × Vec Ideal S256x1536 .fp8e4m3 × Vec Ideal S256x128 .f32 × Vec Ideal S256x128 .i32 × Vec Ideal S256x128 .f32 × Vec Ideal S256x128 .f32 × Vec Ideal S256x128 .f32 × Vec Ideal S256x128 .f32 × Vec Ideal S256x128 .f32 × Vec Ideal S256x128 .f32 × Vec Ideal S256x128 .f32

def lpOf (acc : Acc) : Vec Ideal S2x128 .f32 := acc.1
def lqOf (acc : Acc) : Vec Ideal S2x128 .f32 := acc.2.1
def klOf (acc : Acc) : Vec Ideal S2x128 .f32 := acc.2.2.1
def codesOf (acc : Acc) : Vec Ideal S2x128x1536 .fp8e4m3 := acc.2.2.2.1
def scalesOf (acc : Acc) : Vec Ideal S2x128 .f32 := acc.2.2.2.2.1
def xcOf (acc : Acc) : Vec Ideal S256x1536 .fp8e4m3 := acc.2.2.2.2.2.1
def coefOf (acc : Acc) : Vec Ideal S256x128 .f32 := acc.2.2.2.2.2.2.1
def tgtOf (acc : Acc) : Vec Ideal S256x128 .i32 := acc.2.2.2.2.2.2.2.1
def stOf (acc : Acc) : St Ideal := ⟨acc.2.2.2.2.2.2.2.2.1, acc.2.2.2.2.2.2.2.2.2.1, acc.2.2.2.2.2.2.2.2.2.2.1, acc.2.2.2.2.2.2.2.2.2.2.2.1, acc.2.2.2.2.2.2.2.2.2.2.2.2.1, acc.2.2.2.2.2.2.2.2.2.2.2.2.2.1, acc.2.2.2.2.2.2.2.2.2.2.2.2.2.2⟩

section
variable (a0 : Vec Ideal S2x128 .f32) (a1 : Vec Ideal S2x128 .f32) (a2 : Vec Ideal S2x128 .f32) (a3 : Vec Ideal S2x128x1536 .fp8e4m3) (a4 : Vec Ideal S2x128 .f32) (a5 : Vec Ideal S256x1536 .fp8e4m3) (a6 : Vec Ideal S256x128 .f32) (a7 : Vec Ideal S256x128 .i32) (a8 : Vec Ideal S256x128 .f32) (a9 : Vec Ideal S256x128 .f32) (a10 : Vec Ideal S256x128 .f32) (a11 : Vec Ideal S256x128 .f32) (a12 : Vec Ideal S256x128 .f32) (a13 : Vec Ideal S256x128 .f32) (a14 : Vec Ideal S256x128 .f32)
theorem lpOf_mk : lpOf (a0, a1, a2, a3, a4, a5, a6, a7, a8, a9, a10, a11, a12, a13, a14) = a0 := rfl
theorem lqOf_mk : lqOf (a0, a1, a2, a3, a4, a5, a6, a7, a8, a9, a10, a11, a12, a13, a14) = a1 := rfl
theorem klOf_mk : klOf (a0, a1, a2, a3, a4, a5, a6, a7, a8, a9, a10, a11, a12, a13, a14) = a2 := rfl
theorem codesOf_mk : codesOf (a0, a1, a2, a3, a4, a5, a6, a7, a8, a9, a10, a11, a12, a13, a14) = a3 := rfl
theorem scalesOf_mk : scalesOf (a0, a1, a2, a3, a4, a5, a6, a7, a8, a9, a10, a11, a12, a13, a14) = a4 := rfl
theorem xcOf_mk : xcOf (a0, a1, a2, a3, a4, a5, a6, a7, a8, a9, a10, a11, a12, a13, a14) = a5 := rfl
theorem coefOf_mk : coefOf (a0, a1, a2, a3, a4, a5, a6, a7, a8, a9, a10, a11, a12, a13, a14) = a6 := rfl
theorem tgtOf_mk : tgtOf (a0, a1, a2, a3, a4, a5, a6, a7, a8, a9, a10, a11, a12, a13, a14) = a7 := rfl
theorem stOf_mk : stOf (a0, a1, a2, a3, a4, a5, a6, a7, a8, a9, a10, a11, a12, a13, a14) = ⟨a8, a9, a10, a11, a12, a13, a14⟩ := rfl
end

theorem St.eq {a b d e f g h} {s : St Ideal} (H : a = s.mp ∧ b = s.sp ∧ d = s.ka ∧ e = s.mq ∧ f = s.sq ∧ g = s.tp ∧ h = s.tq) : (⟨a, b, d, e, f, g, h⟩ : St Ideal) = s := by
  obtain ⟨h1, h2, h3, h4, h5, h6, h7⟩ := H
  rw [h1, h2, h3, h4, h5, h6, h7]

/-- A grid step over the blocks of point `t`. -/
def stepAt (t : Fin cfg0.N) (xc : Vec Ideal S256x1536 .fp8e4m3) (coef : Vec Ideal S256x128 .f32) (tgt : Vec Ideal S256x128 .i32) (st : St Ideal) : St Ideal :=
  step (BitVec.ofNat 32 ((grid0.coords t) 0).val) (k0_pay58 (iblk m c 1 t)) xc coef tgt (iblk m c 2 t) (iblk m c 3 t) (iblk m c 4 t)
    (k0_pay56 (iblk m c 5 t)) (k0_pay57 (iblk m c 6 t)) st

end Cert.Proof.K
-- ==== Proof.TieLib.lean ====
module
public import proofs.«01_k».proof.Proof.Gen.KernelIdeal.Frame
public import proofs.«01_k».proof.Proof.KDefs
public import Idealize.ShloMosaic.Lib.WholeRead
public import Idealize.ShloMosaic.Lib.Pipeline.ValueKit.Acc
@[expose] public section
namespace Cert.KernelIdeal.Gen
open Idealize.ShloMosaic Idealize.ShloMosaic.TcCoe
variable {F : FTy → Type} [FloatOps F] [Named F]

/-! How a step's loads read. -/

/-- A load of part of an array that came into the step whole. -/
theorem rd_unread {κ sp s e} {m : Memref sig κ sp s e} (h : m.IsWhole) (X : s.Idx → Elt F e) (R : Rect s) :
    View.readAt (Elt F) m.view R.toLoadRect (h.unread X) = View.ld X R := by
  funext x
  exact h.readAt_unread X _ x

theorem zero2 : (![0, 0] : Fin 2 → ℕ) = fun _ => 0 := by funext a; fin_cases a <;> rfl

/-- A load of part of what one whole store left. -/
theorem readCov_whole {κ sp} {e} {n m : ℕ} (v : View sig κ sp ⟨2, ![n, m]⟩ e) (inb)
    (w : (⟨2, ![n, m]⟩ : Shape).Idx → Elt F e) (R : Rect ⟨2, ![n, m]⟩) :
    v.readCov [(⟨Rect.unit ![0, 0] ![n, m] inb, w⟩ : View.Piece (Elt F) ⟨2, ![n, m]⟩ e)] R.toLoadRect = View.ld w R := by
  rw [View.readCov_eq_canon']
  exact congrArg (fun f => fun j => f (R.toLoadRect.idx j)) (View.canon_unit_zero (S := ⟨2, ![n, m]⟩) zero2 inb w)

/-- A load of a whole array. -/
theorem ld_whole2 {e} {n m : ℕ} (X : (⟨2, ![n, m]⟩ : Shape).Idx → Elt F e) (inb) :
    View.ld X (Rect.unit ![0, 0] ![n, m] inb) = X := View.ld_unit_zero (S := ⟨2, ![n, m]⟩) zero2 inb X

/-- A load of a whole array that some stores left. -/
theorem readCov_all {κ sp} {e} {n m : ℕ} (v : View sig κ sp ⟨2, ![n, m]⟩ e) (inb)
    (L : List (View.Piece (Elt F) ⟨2, ![n, m]⟩ e)) :
    v.readCov L (Rect.unit ![0, 0] ![n, m] inb).toLoadRect = View.canon L := by
  rw [View.readCov_eq_canon']
  exact View.ld_unit_zero (S := ⟨2, ![n, m]⟩) zero2 inb (View.canon L)

end Cert.KernelIdeal.Gen
-- ==== Proof.TieA.lean ====
module
public import proofs.«01_k».proof.Proof.TieLib
set_option maxRecDepth 16384
set_option maxHeartbeats 4000000
@[expose] public section
noncomputable section
namespace Cert.KernelIdeal.Gen
open Idealize.ShloMosaic Idealize.ShloMosaic.TcCoe
variable {F : FTy → Type} [FloatOps F] [Named F]

/-! What the first grid step leaves in each array that it writes. -/

variable (c : Dev nD) (i : grid0.Coords) (arg1 : Memref sig .tc .vmem S2x128x1536 .bf16) (harg1 : arg1.IsWhole) (arg2 : Memref sig .tc .vmem S256x1536 .bf16) (harg2 : arg2.IsWhole) (arg3 : Memref sig .tc .vmem S1536x1536 .fp8e4m3) (harg3 : arg3.IsWhole) (arg4 : Memref sig .tc .vmem S1x1536 .f32) (harg4 : arg4.IsWhole) (arg5 : Memref sig .tc .vmem S1536x768 .i8) (harg5 : arg5.IsWhole) (arg6 : Memref sig .tc .vmem S12x1536 .f32) (harg6 : arg6.IsWhole) (arg7 : Memref sig .tc .vmem S12x1536 .i8) (harg7 : arg7.IsWhole) (arg8 : Memref sig .tc .vmem S2x128 .i32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128x1536 .fp8e4m3) (harg12 : arg12.IsWhole) (arg13 : Memref sig .tc .vmem S2x128 .f32) (harg13 : arg13.IsWhole) (arg14 : Memref sig .tc .vmem S256x1536 .fp8e4m3) (harg14 : arg14.IsWhole) (arg15 : Memref sig .tc .vmem S256x128 .f32) (harg15 : arg15.IsWhole) (arg16 : Memref sig .tc .vmem S12x1536 .bf16) (harg16 : arg16.IsWhole) (arg17 : Memref sig .tc .vmem S12x1536 .bf16) (harg17 : arg17.IsWhole) (arg18 : Memref sig .tc .vmem S256x128 .i32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (hc0 : cond0_0 i) (hc1 : ¬cond0_1 i)
    (x0 : Vec F S2x128x1536 .bf16) (x1 : Vec F S256x1536 .bf16) (x2 : Vec F S1536x1536 .fp8e4m3) (x3 : Vec F S1x1536 .f32) (x4 : Vec F S1536x768 .i8) (x5 : Vec F S12x1536 .f32) (x6 : Vec F S12x1536 .i8) (x7 : Vec F S2x128 .i32)

theorem load_v17 : kernelRun0_A.sl.v17 c arg1 harg1 arg14 x0 = Cert.Proof.K.xcA x0 := by
  simp only [kernelRun0_A.sl.r, kernelRun0_A.sl.r_1, kernelRun0_A.sl.r_2, kernelRun0_A.sl.r_3, kernelRun0_A.sl.v17, kernelRun0_A.sl.v20, kernelRun0_A.sl.v34, kernelRun0_A.sl.v37, kernelRun0_A.sl.v66, kernelRun0_A.sl.v69, kernelRun0_A.sl.v98, kernelRun0_A.sl.v101, kernelRun0_A.sl.v130, kernelRun0_A.sl.v133, kernelRun0_A.sl.v162, kernelRun0_A.sl.v165, kernelRun0_A.sl.v194, kernelRun0_A.sl.v197, kernelRun0_A.sl.v226, kernelRun0_A.sl.v229, kernelRun0_A.sl.v258, kernelRun0_A.sl.v261, kernelRun0_A.sl.v290, kernelRun0_A.sl.v293, kernelRun0_A.sl.v322, kernelRun0_A.sl.v325, kernelRun0_A.sl.v354, kernelRun0_A.sl.v357, kernelRun0_A.sl.v386, kernelRun0_A.sl.v389, kernelRun0_A.sl.v424, kernelRun0_A.sl.v425, kernelRun0_A.sl.v460, kernelRun0_A.sl.v461, kernelRun0_A.sl.v474, kernelRun0_A.sl.v476, kernelRun0_A.sl.v478, kernelRun0_A.sl.v480, kernelRun0_A.sl.v481, kernelRun0_A.sl.v572, kernelRun0_A.sl.v575, kernelRun0_A.sl.v604, kernelRun0_A.sl.v607, kernelRun0_A.sl.v636, kernelRun0_A.sl.v639, kernelRun0_A.sl.v668, kernelRun0_A.sl.v671, kernelRun0_A.sl.v700, kernelRun0_A.sl.v703, kernelRun0_A.sl.v732, kernelRun0_A.sl.v735, kernelRun0_A.sl.v764, kernelRun0_A.sl.v767, kernelRun0_A.sl.v796, kernelRun0_A.sl.v799, kernelRun0_A.sl.v828, kernelRun0_A.sl.v831, kernelRun0_A.sl.v860, kernelRun0_A.sl.v863, kernelRun0_A.sl.v892, kernelRun0_A.sl.v895, kernelRun0_A.sl.v924, kernelRun0_A.sl.v927, kernelRun0_A.sl.v998, kernelRun0_A.sl.v999, kernelRun0_A.sl.HS0_2, kernelRun0_A.sl.HS1_2, kernelRun0_A.sl.HS4_2, kernelRun0_A.sl.v1012, kernelRun0_A.sl.v1014, kernelRun0_A.sl.v1016, kernelRun0_A.sl.v1018, kernelRun0_A.sl.v1019, kernelRun0_A.sl.v1110, kernelRun0_A.sl.v1113, kernelRun0_A.sl.v1142, kernelRun0_A.sl.v1145, kernelRun0_A.sl.v1174, kernelRun0_A.sl.v1177, kernelRun0_A.sl.v1206, kernelRun0_A.sl.v1209, kernelRun0_A.sl.v1238, kernelRun0_A.sl.v1241, kernelRun0_A.sl.v1270, kernelRun0_A.sl.v1273, kernelRun0_A.sl.v1302, kernelRun0_A.sl.v1305, kernelRun0_A.sl.v1334, kernelRun0_A.sl.v1337, kernelRun0_A.sl.v1366, kernelRun0_A.sl.v1369, kernelRun0_A.sl.v1398, kernelRun0_A.sl.v1401, kernelRun0_A.sl.v1430, kernelRun0_A.sl.v1433, kernelRun0_A.sl.v1462, kernelRun0_A.sl.v1465, kernelRun0_A.sl.v1536, kernelRun0_A.sl.v1537, kernelRun0_A.sl.v1550, kernelRun0_A.sl.v1552, kernelRun0_A.sl.v1554, kernelRun0_A.sl.v1556, kernelRun0_A.sl.v1557, kernelRun0_A.sl.v1639, kernelRun0_A.sl.v1640, kernelRun0_A.sl.v1641, kernelRun0_A.sl.v1642, kernelRun0_A.sl.v1643, kernelRun0_A.sl.v1644, kernelRun0_A.sl.v1645, kernelRun0_A.sl.v1646, kernelRun0_A.sl.v1647, kernelRun0_A.sl.v1648, kernelRun0_A.sl.v1649, kernelRun0_A.sl.v1651, kernelRun0_A.sl.v1652, kernelRun0_A.sl.v1654, kernelRun0_A.sl.v1655, kernelRun0_A.sl.v1656, kernelRun0_A.sl.v1657, kernelRun0_A.sl.v1659, kernelRun0_A.sl.v1660, kernelRun0_A.sl.v1661, kernelRun0_A.sl.v1662, kernelRun0_A.sl.v1663, kernelRun0_A.sl.v1664, kernelRun0_A.sl.v1666, kernelRun0_A.sl.v1667, kernelRun0_A.sl.v1668, kernelRun0_A.sl.v1669, kernelRun0_A.sl.v1670, kernelRun0_A.sl.v1671, kernelRun0_A.sl.v1673, kernelRun0_A.sl.v1674, kernelRun0_A.sl.v1675, kernelRun0_A.sl.v1676, kernelRun0_A.sl.v1677, kernelRun0_A.sl.v1678, kernelRun0_A.sl.v1680, kernelRun0_A.sl.v1681, kernelRun0_A.sl.v1682, kernelRun0_A.sl.v1683, kernelRun0_A.sl.v1684, kernelRun0_A.sl.v1685, kernelRun0_A.sl.v1687, kernelRun0_A.sl.v1688, kernelRun0_A.sl.v1689, kernelRun0_A.sl.v1690, kernelRun0_A.sl.v1691, kernelRun0_A.sl.v1692, kernelRun0_A.sl.v1694, kernelRun0_A.sl.v1695, kernelRun0_A.sl.v1696, kernelRun0_A.sl.v1697, kernelRun0_A.sl.v1698, kernelRun0_A.sl.v1699, kernelRun0_A.sl.v1701, kernelRun0_A.sl.v1702, kernelRun0_A.sl.v1703, kernelRun0_A.sl.v1704, kernelRun0_A.sl.v1706, kernelRun0_A.sl.v1707, kernelRun0_A.sl.v1708, kernelRun0_A.sl.v1710, kernelRun0_A.sl.v1711, kernelRun0_A.sl.v1712, kernelRun0_A.sl.v1714, kernelRun0_A.sl.v1715, kernelRun0_A.sl.v1717, kernelRun0_A.sl.v1719, kernelRun0_A.sl.v1720, kernelRun0_A.sl.v1721, kernelRun0_A.sl.v1722, kernelRun0_A.sl.v1723, kernelRun0_A.sl.v1724, kernelRun0_A.sl.v1725, kernelRun0_A.sl.v1726, kernelRun0_A.sl.v1764, kernelRun0_A.sl.v1765, kernelRun0_A.sl.v1766, kernelRun0_A.sl.v1767, kernelRun0_A.sl.v1769, kernelRun0_A.sl.v1771, kernelRun0_A.sl.v1772, kernelRun0_A.sl.v1773, kernelRun0_A.sl.v1774, kernelRun0_A.sl.v1776, kernelRun0_A.sl.v1778, kernelRun0_A.sl.v1779, kernelRun0_A.sl.v1780, kernelRun0_A.sl.v1781, kernelRun0_A.sl.v1783, kernelRun0_A.sl.v1785, kernelRun0_A.sl.v1786, kernelRun0_A.sl.v1787, kernelRun0_A.sl.v1788, kernelRun0_A.sl.v1790, kernelRun0_A.sl.v1792, kernelRun0_A.sl.v1793, kernelRun0_A.sl.v1794, kernelRun0_A.sl.v1795, kernelRun0_A.sl.v1797, kernelRun0_A.sl.v1799, kernelRun0_A.sl.v1800, kernelRun0_A.sl.v1801, kernelRun0_A.sl.v1802, kernelRun0_A.sl.v1804, kernelRun0_A.sl.v1806, kernelRun0_A.sl.v1807, kernelRun0_A.sl.v1808, kernelRun0_A.sl.v1809, kernelRun0_A.sl.v1849, kernelRun0_A.sl.v1850, kernelRun0_A.sl.v1851, kernelRun0_A.sl.v1853, kernelRun0_A.sl.v1854, kernelRun0_A.sl.v1856, kernelRun0_A.sl.v1857, kernelRun0_A.sl.v1858, kernelRun0_A.sl.v1859, kernelRun0_A.sl.v1860, kernelRun0_A.sl.v1861, kernelRun0_A.sl.v1862, kernelRun0_A.sl.v1864, kernelRun0_A.sl.v1865, kernelRun0_A.sl.v1868, kernelRun0_A.sl.v1870, kernelRun0_A.sl.v1872, kernelRun0_A.sl.v1873, kernelRun0_A.sl.v1876,
    rd_unread, View.readCov_cons_toLoadRect, readCov_whole, readCov_all, ld_whole2]
  rfl

theorem load_v424 : kernelRun0_A.sl.v424 c arg1 harg1 arg15 x0 = Cert.Proof.K.coefA x0 := by
  simp only [kernelRun0_A.sl.r, kernelRun0_A.sl.r_1, kernelRun0_A.sl.r_2, kernelRun0_A.sl.r_3, kernelRun0_A.sl.v17, kernelRun0_A.sl.v20, kernelRun0_A.sl.v34, kernelRun0_A.sl.v37, kernelRun0_A.sl.v66, kernelRun0_A.sl.v69, kernelRun0_A.sl.v98, kernelRun0_A.sl.v101, kernelRun0_A.sl.v130, kernelRun0_A.sl.v133, kernelRun0_A.sl.v162, kernelRun0_A.sl.v165, kernelRun0_A.sl.v194, kernelRun0_A.sl.v197, kernelRun0_A.sl.v226, kernelRun0_A.sl.v229, kernelRun0_A.sl.v258, kernelRun0_A.sl.v261, kernelRun0_A.sl.v290, kernelRun0_A.sl.v293, kernelRun0_A.sl.v322, kernelRun0_A.sl.v325, kernelRun0_A.sl.v354, kernelRun0_A.sl.v357, kernelRun0_A.sl.v386, kernelRun0_A.sl.v389, kernelRun0_A.sl.v424, kernelRun0_A.sl.v425, kernelRun0_A.sl.v460, kernelRun0_A.sl.v461, kernelRun0_A.sl.v474, kernelRun0_A.sl.v476, kernelRun0_A.sl.v478, kernelRun0_A.sl.v480, kernelRun0_A.sl.v481, kernelRun0_A.sl.v572, kernelRun0_A.sl.v575, kernelRun0_A.sl.v604, kernelRun0_A.sl.v607, kernelRun0_A.sl.v636, kernelRun0_A.sl.v639, kernelRun0_A.sl.v668, kernelRun0_A.sl.v671, kernelRun0_A.sl.v700, kernelRun0_A.sl.v703, kernelRun0_A.sl.v732, kernelRun0_A.sl.v735, kernelRun0_A.sl.v764, kernelRun0_A.sl.v767, kernelRun0_A.sl.v796, kernelRun0_A.sl.v799, kernelRun0_A.sl.v828, kernelRun0_A.sl.v831, kernelRun0_A.sl.v860, kernelRun0_A.sl.v863, kernelRun0_A.sl.v892, kernelRun0_A.sl.v895, kernelRun0_A.sl.v924, kernelRun0_A.sl.v927, kernelRun0_A.sl.v998, kernelRun0_A.sl.v999, kernelRun0_A.sl.HS0_2, kernelRun0_A.sl.HS1_2, kernelRun0_A.sl.HS4_2, kernelRun0_A.sl.v1012, kernelRun0_A.sl.v1014, kernelRun0_A.sl.v1016, kernelRun0_A.sl.v1018, kernelRun0_A.sl.v1019, kernelRun0_A.sl.v1110, kernelRun0_A.sl.v1113, kernelRun0_A.sl.v1142, kernelRun0_A.sl.v1145, kernelRun0_A.sl.v1174, kernelRun0_A.sl.v1177, kernelRun0_A.sl.v1206, kernelRun0_A.sl.v1209, kernelRun0_A.sl.v1238, kernelRun0_A.sl.v1241, kernelRun0_A.sl.v1270, kernelRun0_A.sl.v1273, kernelRun0_A.sl.v1302, kernelRun0_A.sl.v1305, kernelRun0_A.sl.v1334, kernelRun0_A.sl.v1337, kernelRun0_A.sl.v1366, kernelRun0_A.sl.v1369, kernelRun0_A.sl.v1398, kernelRun0_A.sl.v1401, kernelRun0_A.sl.v1430, kernelRun0_A.sl.v1433, kernelRun0_A.sl.v1462, kernelRun0_A.sl.v1465, kernelRun0_A.sl.v1536, kernelRun0_A.sl.v1537, kernelRun0_A.sl.v1550, kernelRun0_A.sl.v1552, kernelRun0_A.sl.v1554, kernelRun0_A.sl.v1556, kernelRun0_A.sl.v1557, kernelRun0_A.sl.v1639, kernelRun0_A.sl.v1640, kernelRun0_A.sl.v1641, kernelRun0_A.sl.v1642, kernelRun0_A.sl.v1643, kernelRun0_A.sl.v1644, kernelRun0_A.sl.v1645, kernelRun0_A.sl.v1646, kernelRun0_A.sl.v1647, kernelRun0_A.sl.v1648, kernelRun0_A.sl.v1649, kernelRun0_A.sl.v1651, kernelRun0_A.sl.v1652, kernelRun0_A.sl.v1654, kernelRun0_A.sl.v1655, kernelRun0_A.sl.v1656, kernelRun0_A.sl.v1657, kernelRun0_A.sl.v1659, kernelRun0_A.sl.v1660, kernelRun0_A.sl.v1661, kernelRun0_A.sl.v1662, kernelRun0_A.sl.v1663, kernelRun0_A.sl.v1664, kernelRun0_A.sl.v1666, kernelRun0_A.sl.v1667, kernelRun0_A.sl.v1668, kernelRun0_A.sl.v1669, kernelRun0_A.sl.v1670, kernelRun0_A.sl.v1671, kernelRun0_A.sl.v1673, kernelRun0_A.sl.v1674, kernelRun0_A.sl.v1675, kernelRun0_A.sl.v1676, kernelRun0_A.sl.v1677, kernelRun0_A.sl.v1678, kernelRun0_A.sl.v1680, kernelRun0_A.sl.v1681, kernelRun0_A.sl.v1682, kernelRun0_A.sl.v1683, kernelRun0_A.sl.v1684, kernelRun0_A.sl.v1685, kernelRun0_A.sl.v1687, kernelRun0_A.sl.v1688, kernelRun0_A.sl.v1689, kernelRun0_A.sl.v1690, kernelRun0_A.sl.v1691, kernelRun0_A.sl.v1692, kernelRun0_A.sl.v1694, kernelRun0_A.sl.v1695, kernelRun0_A.sl.v1696, kernelRun0_A.sl.v1697, kernelRun0_A.sl.v1698, kernelRun0_A.sl.v1699, kernelRun0_A.sl.v1701, kernelRun0_A.sl.v1702, kernelRun0_A.sl.v1703, kernelRun0_A.sl.v1704, kernelRun0_A.sl.v1706, kernelRun0_A.sl.v1707, kernelRun0_A.sl.v1708, kernelRun0_A.sl.v1710, kernelRun0_A.sl.v1711, kernelRun0_A.sl.v1712, kernelRun0_A.sl.v1714, kernelRun0_A.sl.v1715, kernelRun0_A.sl.v1717, kernelRun0_A.sl.v1719, kernelRun0_A.sl.v1720, kernelRun0_A.sl.v1721, kernelRun0_A.sl.v1722, kernelRun0_A.sl.v1723, kernelRun0_A.sl.v1724, kernelRun0_A.sl.v1725, kernelRun0_A.sl.v1726, kernelRun0_A.sl.v1764, kernelRun0_A.sl.v1765, kernelRun0_A.sl.v1766, kernelRun0_A.sl.v1767, kernelRun0_A.sl.v1769, kernelRun0_A.sl.v1771, kernelRun0_A.sl.v1772, kernelRun0_A.sl.v1773, kernelRun0_A.sl.v1774, kernelRun0_A.sl.v1776, kernelRun0_A.sl.v1778, kernelRun0_A.sl.v1779, kernelRun0_A.sl.v1780, kernelRun0_A.sl.v1781, kernelRun0_A.sl.v1783, kernelRun0_A.sl.v1785, kernelRun0_A.sl.v1786, kernelRun0_A.sl.v1787, kernelRun0_A.sl.v1788, kernelRun0_A.sl.v1790, kernelRun0_A.sl.v1792, kernelRun0_A.sl.v1793, kernelRun0_A.sl.v1794, kernelRun0_A.sl.v1795, kernelRun0_A.sl.v1797, kernelRun0_A.sl.v1799, kernelRun0_A.sl.v1800, kernelRun0_A.sl.v1801, kernelRun0_A.sl.v1802, kernelRun0_A.sl.v1804, kernelRun0_A.sl.v1806, kernelRun0_A.sl.v1807, kernelRun0_A.sl.v1808, kernelRun0_A.sl.v1809, kernelRun0_A.sl.v1849, kernelRun0_A.sl.v1850, kernelRun0_A.sl.v1851, kernelRun0_A.sl.v1853, kernelRun0_A.sl.v1854, kernelRun0_A.sl.v1856, kernelRun0_A.sl.v1857, kernelRun0_A.sl.v1858, kernelRun0_A.sl.v1859, kernelRun0_A.sl.v1860, kernelRun0_A.sl.v1861, kernelRun0_A.sl.v1862, kernelRun0_A.sl.v1864, kernelRun0_A.sl.v1865, kernelRun0_A.sl.v1868, kernelRun0_A.sl.v1870, kernelRun0_A.sl.v1872, kernelRun0_A.sl.v1873, kernelRun0_A.sl.v1876,
    rd_unread, View.readCov_cons_toLoadRect, readCov_whole, readCov_all, ld_whole2]
  rfl

theorem load_v425 : kernelRun0_A.sl.v425 c arg8 harg8 arg18 x7 = Cert.Proof.K.tgtA x7 := by
  simp only [kernelRun0_A.sl.r, kernelRun0_A.sl.r_1, kernelRun0_A.sl.r_2, kernelRun0_A.sl.r_3, kernelRun0_A.sl.v17, kernelRun0_A.sl.v20, kernelRun0_A.sl.v34, kernelRun0_A.sl.v37, kernelRun0_A.sl.v66, kernelRun0_A.sl.v69, kernelRun0_A.sl.v98, kernelRun0_A.sl.v101, kernelRun0_A.sl.v130, kernelRun0_A.sl.v133, kernelRun0_A.sl.v162, kernelRun0_A.sl.v165, kernelRun0_A.sl.v194, kernelRun0_A.sl.v197, kernelRun0_A.sl.v226, kernelRun0_A.sl.v229, kernelRun0_A.sl.v258, kernelRun0_A.sl.v261, kernelRun0_A.sl.v290, kernelRun0_A.sl.v293, kernelRun0_A.sl.v322, kernelRun0_A.sl.v325, kernelRun0_A.sl.v354, kernelRun0_A.sl.v357, kernelRun0_A.sl.v386, kernelRun0_A.sl.v389, kernelRun0_A.sl.v424, kernelRun0_A.sl.v425, kernelRun0_A.sl.v460, kernelRun0_A.sl.v461, kernelRun0_A.sl.v474, kernelRun0_A.sl.v476, kernelRun0_A.sl.v478, kernelRun0_A.sl.v480, kernelRun0_A.sl.v481, kernelRun0_A.sl.v572, kernelRun0_A.sl.v575, kernelRun0_A.sl.v604, kernelRun0_A.sl.v607, kernelRun0_A.sl.v636, kernelRun0_A.sl.v639, kernelRun0_A.sl.v668, kernelRun0_A.sl.v671, kernelRun0_A.sl.v700, kernelRun0_A.sl.v703, kernelRun0_A.sl.v732, kernelRun0_A.sl.v735, kernelRun0_A.sl.v764, kernelRun0_A.sl.v767, kernelRun0_A.sl.v796, kernelRun0_A.sl.v799, kernelRun0_A.sl.v828, kernelRun0_A.sl.v831, kernelRun0_A.sl.v860, kernelRun0_A.sl.v863, kernelRun0_A.sl.v892, kernelRun0_A.sl.v895, kernelRun0_A.sl.v924, kernelRun0_A.sl.v927, kernelRun0_A.sl.v998, kernelRun0_A.sl.v999, kernelRun0_A.sl.HS0_2, kernelRun0_A.sl.HS1_2, kernelRun0_A.sl.HS4_2, kernelRun0_A.sl.v1012, kernelRun0_A.sl.v1014, kernelRun0_A.sl.v1016, kernelRun0_A.sl.v1018, kernelRun0_A.sl.v1019, kernelRun0_A.sl.v1110, kernelRun0_A.sl.v1113, kernelRun0_A.sl.v1142, kernelRun0_A.sl.v1145, kernelRun0_A.sl.v1174, kernelRun0_A.sl.v1177, kernelRun0_A.sl.v1206, kernelRun0_A.sl.v1209, kernelRun0_A.sl.v1238, kernelRun0_A.sl.v1241, kernelRun0_A.sl.v1270, kernelRun0_A.sl.v1273, kernelRun0_A.sl.v1302, kernelRun0_A.sl.v1305, kernelRun0_A.sl.v1334, kernelRun0_A.sl.v1337, kernelRun0_A.sl.v1366, kernelRun0_A.sl.v1369, kernelRun0_A.sl.v1398, kernelRun0_A.sl.v1401, kernelRun0_A.sl.v1430, kernelRun0_A.sl.v1433, kernelRun0_A.sl.v1462, kernelRun0_A.sl.v1465, kernelRun0_A.sl.v1536, kernelRun0_A.sl.v1537, kernelRun0_A.sl.v1550, kernelRun0_A.sl.v1552, kernelRun0_A.sl.v1554, kernelRun0_A.sl.v1556, kernelRun0_A.sl.v1557, kernelRun0_A.sl.v1639, kernelRun0_A.sl.v1640, kernelRun0_A.sl.v1641, kernelRun0_A.sl.v1642, kernelRun0_A.sl.v1643, kernelRun0_A.sl.v1644, kernelRun0_A.sl.v1645, kernelRun0_A.sl.v1646, kernelRun0_A.sl.v1647, kernelRun0_A.sl.v1648, kernelRun0_A.sl.v1649, kernelRun0_A.sl.v1651, kernelRun0_A.sl.v1652, kernelRun0_A.sl.v1654, kernelRun0_A.sl.v1655, kernelRun0_A.sl.v1656, kernelRun0_A.sl.v1657, kernelRun0_A.sl.v1659, kernelRun0_A.sl.v1660, kernelRun0_A.sl.v1661, kernelRun0_A.sl.v1662, kernelRun0_A.sl.v1663, kernelRun0_A.sl.v1664, kernelRun0_A.sl.v1666, kernelRun0_A.sl.v1667, kernelRun0_A.sl.v1668, kernelRun0_A.sl.v1669, kernelRun0_A.sl.v1670, kernelRun0_A.sl.v1671, kernelRun0_A.sl.v1673, kernelRun0_A.sl.v1674, kernelRun0_A.sl.v1675, kernelRun0_A.sl.v1676, kernelRun0_A.sl.v1677, kernelRun0_A.sl.v1678, kernelRun0_A.sl.v1680, kernelRun0_A.sl.v1681, kernelRun0_A.sl.v1682, kernelRun0_A.sl.v1683, kernelRun0_A.sl.v1684, kernelRun0_A.sl.v1685, kernelRun0_A.sl.v1687, kernelRun0_A.sl.v1688, kernelRun0_A.sl.v1689, kernelRun0_A.sl.v1690, kernelRun0_A.sl.v1691, kernelRun0_A.sl.v1692, kernelRun0_A.sl.v1694, kernelRun0_A.sl.v1695, kernelRun0_A.sl.v1696, kernelRun0_A.sl.v1697, kernelRun0_A.sl.v1698, kernelRun0_A.sl.v1699, kernelRun0_A.sl.v1701, kernelRun0_A.sl.v1702, kernelRun0_A.sl.v1703, kernelRun0_A.sl.v1704, kernelRun0_A.sl.v1706, kernelRun0_A.sl.v1707, kernelRun0_A.sl.v1708, kernelRun0_A.sl.v1710, kernelRun0_A.sl.v1711, kernelRun0_A.sl.v1712, kernelRun0_A.sl.v1714, kernelRun0_A.sl.v1715, kernelRun0_A.sl.v1717, kernelRun0_A.sl.v1719, kernelRun0_A.sl.v1720, kernelRun0_A.sl.v1721, kernelRun0_A.sl.v1722, kernelRun0_A.sl.v1723, kernelRun0_A.sl.v1724, kernelRun0_A.sl.v1725, kernelRun0_A.sl.v1726, kernelRun0_A.sl.v1764, kernelRun0_A.sl.v1765, kernelRun0_A.sl.v1766, kernelRun0_A.sl.v1767, kernelRun0_A.sl.v1769, kernelRun0_A.sl.v1771, kernelRun0_A.sl.v1772, kernelRun0_A.sl.v1773, kernelRun0_A.sl.v1774, kernelRun0_A.sl.v1776, kernelRun0_A.sl.v1778, kernelRun0_A.sl.v1779, kernelRun0_A.sl.v1780, kernelRun0_A.sl.v1781, kernelRun0_A.sl.v1783, kernelRun0_A.sl.v1785, kernelRun0_A.sl.v1786, kernelRun0_A.sl.v1787, kernelRun0_A.sl.v1788, kernelRun0_A.sl.v1790, kernelRun0_A.sl.v1792, kernelRun0_A.sl.v1793, kernelRun0_A.sl.v1794, kernelRun0_A.sl.v1795, kernelRun0_A.sl.v1797, kernelRun0_A.sl.v1799, kernelRun0_A.sl.v1800, kernelRun0_A.sl.v1801, kernelRun0_A.sl.v1802, kernelRun0_A.sl.v1804, kernelRun0_A.sl.v1806, kernelRun0_A.sl.v1807, kernelRun0_A.sl.v1808, kernelRun0_A.sl.v1809, kernelRun0_A.sl.v1849, kernelRun0_A.sl.v1850, kernelRun0_A.sl.v1851, kernelRun0_A.sl.v1853, kernelRun0_A.sl.v1854, kernelRun0_A.sl.v1856, kernelRun0_A.sl.v1857, kernelRun0_A.sl.v1858, kernelRun0_A.sl.v1859, kernelRun0_A.sl.v1860, kernelRun0_A.sl.v1861, kernelRun0_A.sl.v1862, kernelRun0_A.sl.v1864, kernelRun0_A.sl.v1865, kernelRun0_A.sl.v1868, kernelRun0_A.sl.v1870, kernelRun0_A.sl.v1872, kernelRun0_A.sl.v1873, kernelRun0_A.sl.v1876,
    rd_unread, View.readCov_cons_toLoadRect, readCov_whole, readCov_all, ld_whole2]
  rfl

theorem tieA_quant : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 = Cert.Proof.K.xcA x0 ∧
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 = Cert.Proof.K.coefA x0 ∧
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 = Cert.Proof.K.tgtA x7 ∧
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 = Cert.Proof.K.codesA x0 ∧
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 = Cert.Proof.K.scalesA x0 := by
  unfold sout0_A_0 sout0_A_1 sout0_A_4 out0_A_11 out0_A_12 kernelRun0_A
  dsimp only
  refine ⟨?_, ?_, ?_, ?_, ?_⟩
  all_goals rw [View.read_writes_junk_eq_canon]
  all_goals simp only [kernelRun0_A.sl.r, kernelRun0_A.sl.r_1, kernelRun0_A.sl.r_2, kernelRun0_A.sl.r_3, kernelRun0_A.sl.v17, kernelRun0_A.sl.v20, kernelRun0_A.sl.v34, kernelRun0_A.sl.v37, kernelRun0_A.sl.v66, kernelRun0_A.sl.v69, kernelRun0_A.sl.v98, kernelRun0_A.sl.v101, kernelRun0_A.sl.v130, kernelRun0_A.sl.v133, kernelRun0_A.sl.v162, kernelRun0_A.sl.v165, kernelRun0_A.sl.v194, kernelRun0_A.sl.v197, kernelRun0_A.sl.v226, kernelRun0_A.sl.v229, kernelRun0_A.sl.v258, kernelRun0_A.sl.v261, kernelRun0_A.sl.v290, kernelRun0_A.sl.v293, kernelRun0_A.sl.v322, kernelRun0_A.sl.v325, kernelRun0_A.sl.v354, kernelRun0_A.sl.v357, kernelRun0_A.sl.v386, kernelRun0_A.sl.v389, kernelRun0_A.sl.v424, kernelRun0_A.sl.v425, kernelRun0_A.sl.v460, kernelRun0_A.sl.v461, kernelRun0_A.sl.v474, kernelRun0_A.sl.v476, kernelRun0_A.sl.v478, kernelRun0_A.sl.v480, kernelRun0_A.sl.v481, kernelRun0_A.sl.v572, kernelRun0_A.sl.v575, kernelRun0_A.sl.v604, kernelRun0_A.sl.v607, kernelRun0_A.sl.v636, kernelRun0_A.sl.v639, kernelRun0_A.sl.v668, kernelRun0_A.sl.v671, kernelRun0_A.sl.v700, kernelRun0_A.sl.v703, kernelRun0_A.sl.v732, kernelRun0_A.sl.v735, kernelRun0_A.sl.v764, kernelRun0_A.sl.v767, kernelRun0_A.sl.v796, kernelRun0_A.sl.v799, kernelRun0_A.sl.v828, kernelRun0_A.sl.v831, kernelRun0_A.sl.v860, kernelRun0_A.sl.v863, kernelRun0_A.sl.v892, kernelRun0_A.sl.v895, kernelRun0_A.sl.v924, kernelRun0_A.sl.v927, kernelRun0_A.sl.v998, kernelRun0_A.sl.v999, kernelRun0_A.sl.HS0_2, kernelRun0_A.sl.HS1_2, kernelRun0_A.sl.HS4_2, kernelRun0_A.sl.v1012, kernelRun0_A.sl.v1014, kernelRun0_A.sl.v1016, kernelRun0_A.sl.v1018, kernelRun0_A.sl.v1019, kernelRun0_A.sl.v1110, kernelRun0_A.sl.v1113, kernelRun0_A.sl.v1142, kernelRun0_A.sl.v1145, kernelRun0_A.sl.v1174, kernelRun0_A.sl.v1177, kernelRun0_A.sl.v1206, kernelRun0_A.sl.v1209, kernelRun0_A.sl.v1238, kernelRun0_A.sl.v1241, kernelRun0_A.sl.v1270, kernelRun0_A.sl.v1273, kernelRun0_A.sl.v1302, kernelRun0_A.sl.v1305, kernelRun0_A.sl.v1334, kernelRun0_A.sl.v1337, kernelRun0_A.sl.v1366, kernelRun0_A.sl.v1369, kernelRun0_A.sl.v1398, kernelRun0_A.sl.v1401, kernelRun0_A.sl.v1430, kernelRun0_A.sl.v1433, kernelRun0_A.sl.v1462, kernelRun0_A.sl.v1465, kernelRun0_A.sl.v1536, kernelRun0_A.sl.v1537, kernelRun0_A.sl.v1550, kernelRun0_A.sl.v1552, kernelRun0_A.sl.v1554, kernelRun0_A.sl.v1556, kernelRun0_A.sl.v1557, kernelRun0_A.sl.v1639, kernelRun0_A.sl.v1640, kernelRun0_A.sl.v1641, kernelRun0_A.sl.v1642, kernelRun0_A.sl.v1643, kernelRun0_A.sl.v1644, kernelRun0_A.sl.v1645, kernelRun0_A.sl.v1646, kernelRun0_A.sl.v1647, kernelRun0_A.sl.v1648, kernelRun0_A.sl.v1649, kernelRun0_A.sl.v1651, kernelRun0_A.sl.v1652, kernelRun0_A.sl.v1654, kernelRun0_A.sl.v1655, kernelRun0_A.sl.v1656, kernelRun0_A.sl.v1657, kernelRun0_A.sl.v1659, kernelRun0_A.sl.v1660, kernelRun0_A.sl.v1661, kernelRun0_A.sl.v1662, kernelRun0_A.sl.v1663, kernelRun0_A.sl.v1664, kernelRun0_A.sl.v1666, kernelRun0_A.sl.v1667, kernelRun0_A.sl.v1668, kernelRun0_A.sl.v1669, kernelRun0_A.sl.v1670, kernelRun0_A.sl.v1671, kernelRun0_A.sl.v1673, kernelRun0_A.sl.v1674, kernelRun0_A.sl.v1675, kernelRun0_A.sl.v1676, kernelRun0_A.sl.v1677, kernelRun0_A.sl.v1678, kernelRun0_A.sl.v1680, kernelRun0_A.sl.v1681, kernelRun0_A.sl.v1682, kernelRun0_A.sl.v1683, kernelRun0_A.sl.v1684, kernelRun0_A.sl.v1685, kernelRun0_A.sl.v1687, kernelRun0_A.sl.v1688, kernelRun0_A.sl.v1689, kernelRun0_A.sl.v1690, kernelRun0_A.sl.v1691, kernelRun0_A.sl.v1692, kernelRun0_A.sl.v1694, kernelRun0_A.sl.v1695, kernelRun0_A.sl.v1696, kernelRun0_A.sl.v1697, kernelRun0_A.sl.v1698, kernelRun0_A.sl.v1699, kernelRun0_A.sl.v1701, kernelRun0_A.sl.v1702, kernelRun0_A.sl.v1703, kernelRun0_A.sl.v1704, kernelRun0_A.sl.v1706, kernelRun0_A.sl.v1707, kernelRun0_A.sl.v1708, kernelRun0_A.sl.v1710, kernelRun0_A.sl.v1711, kernelRun0_A.sl.v1712, kernelRun0_A.sl.v1714, kernelRun0_A.sl.v1715, kernelRun0_A.sl.v1717, kernelRun0_A.sl.v1719, kernelRun0_A.sl.v1720, kernelRun0_A.sl.v1721, kernelRun0_A.sl.v1722, kernelRun0_A.sl.v1723, kernelRun0_A.sl.v1724, kernelRun0_A.sl.v1725, kernelRun0_A.sl.v1726, kernelRun0_A.sl.v1764, kernelRun0_A.sl.v1765, kernelRun0_A.sl.v1766, kernelRun0_A.sl.v1767, kernelRun0_A.sl.v1769, kernelRun0_A.sl.v1771, kernelRun0_A.sl.v1772, kernelRun0_A.sl.v1773, kernelRun0_A.sl.v1774, kernelRun0_A.sl.v1776, kernelRun0_A.sl.v1778, kernelRun0_A.sl.v1779, kernelRun0_A.sl.v1780, kernelRun0_A.sl.v1781, kernelRun0_A.sl.v1783, kernelRun0_A.sl.v1785, kernelRun0_A.sl.v1786, kernelRun0_A.sl.v1787, kernelRun0_A.sl.v1788, kernelRun0_A.sl.v1790, kernelRun0_A.sl.v1792, kernelRun0_A.sl.v1793, kernelRun0_A.sl.v1794, kernelRun0_A.sl.v1795, kernelRun0_A.sl.v1797, kernelRun0_A.sl.v1799, kernelRun0_A.sl.v1800, kernelRun0_A.sl.v1801, kernelRun0_A.sl.v1802, kernelRun0_A.sl.v1804, kernelRun0_A.sl.v1806, kernelRun0_A.sl.v1807, kernelRun0_A.sl.v1808, kernelRun0_A.sl.v1809, kernelRun0_A.sl.v1849, kernelRun0_A.sl.v1850, kernelRun0_A.sl.v1851, kernelRun0_A.sl.v1853, kernelRun0_A.sl.v1854, kernelRun0_A.sl.v1856, kernelRun0_A.sl.v1857, kernelRun0_A.sl.v1858, kernelRun0_A.sl.v1859, kernelRun0_A.sl.v1860, kernelRun0_A.sl.v1861, kernelRun0_A.sl.v1862, kernelRun0_A.sl.v1864, kernelRun0_A.sl.v1865, kernelRun0_A.sl.v1868, kernelRun0_A.sl.v1870, kernelRun0_A.sl.v1872, kernelRun0_A.sl.v1873, kernelRun0_A.sl.v1876,
    rd_unread, View.readCov_cons_toLoadRect, readCov_whole, readCov_all, ld_whole2]
  all_goals rfl

theorem tieA_state : sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 = (Cert.Proof.K.step (BitVec.ofNat 32 (i 0).val) (k0_pay58 x1) (Cert.Proof.K.xcA x0) (Cert.Proof.K.coefA x0) (Cert.Proof.K.tgtA x7) x2 x3 x4 (k0_pay56 x5) (k0_pay57 x6) Cert.Proof.K.stA).mp ∧
    sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 = (Cert.Proof.K.step (BitVec.ofNat 32 (i 0).val) (k0_pay58 x1) (Cert.Proof.K.xcA x0) (Cert.Proof.K.coefA x0) (Cert.Proof.K.tgtA x7) x2 x3 x4 (k0_pay56 x5) (k0_pay57 x6) Cert.Proof.K.stA).sp ∧
    sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 = (Cert.Proof.K.step (BitVec.ofNat 32 (i 0).val) (k0_pay58 x1) (Cert.Proof.K.xcA x0) (Cert.Proof.K.coefA x0) (Cert.Proof.K.tgtA x7) x2 x3 x4 (k0_pay56 x5) (k0_pay57 x6) Cert.Proof.K.stA).ka ∧
    sout0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 = (Cert.Proof.K.step (BitVec.ofNat 32 (i 0).val) (k0_pay58 x1) (Cert.Proof.K.xcA x0) (Cert.Proof.K.coefA x0) (Cert.Proof.K.tgtA x7) x2 x3 x4 (k0_pay56 x5) (k0_pay57 x6) Cert.Proof.K.stA).mq ∧
    sout0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 = (Cert.Proof.K.step (BitVec.ofNat 32 (i 0).val) (k0_pay58 x1) (Cert.Proof.K.xcA x0) (Cert.Proof.K.coefA x0) (Cert.Proof.K.tgtA x7) x2 x3 x4 (k0_pay56 x5) (k0_pay57 x6) Cert.Proof.K.stA).sq ∧
    sout0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 = (Cert.Proof.K.step (BitVec.ofNat 32 (i 0).val) (k0_pay58 x1) (Cert.Proof.K.xcA x0) (Cert.Proof.K.coefA x0) (Cert.Proof.K.tgtA x7) x2 x3 x4 (k0_pay56 x5) (k0_pay57 x6) Cert.Proof.K.stA).tp ∧
    sout0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 = (Cert.Proof.K.step (BitVec.ofNat 32 (i 0).val) (k0_pay58 x1) (Cert.Proof.K.xcA x0) (Cert.Proof.K.coefA x0) (Cert.Proof.K.tgtA x7) x2 x3 x4 (k0_pay56 x5) (k0_pay57 x6) Cert.Proof.K.stA).tq := by
  unfold sout0_A_5 sout0_A_6 sout0_A_7 sout0_A_8 sout0_A_9 sout0_A_10 sout0_A_11 kernelRun0_A
  dsimp only
  refine ⟨?_, ?_, ?_, ?_, ?_, ?_, ?_⟩
  all_goals rw [View.read_writes_junk_eq_canon]
  all_goals rw [View.canon_cons_unit_zero zero2]
  all_goals simp only [load_v17, load_v424, load_v425, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.v20, kernelRun0_A.sl.v34, kernelRun0_A.sl.v37, kernelRun0_A.sl.v66, kernelRun0_A.sl.v69, kernelRun0_A.sl.v98, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.v101, kernelRun0_A.sl.v130, kernelRun0_A.sl.v133, kernelRun0_A.sl.v162, kernelRun0_A.sl.v165, kernelRun0_A.sl.v194, kernelRun0_A.sl.v197, kernelRun0_A.sl.v226, kernelRun0_A.sl.v229, kernelRun0_A.sl.v258, kernelRun0_A.sl.v261, kernelRun0_A.sl.v290, kernelRun0_A.sl.v293, kernelRun0_A.sl.v322, kernelRun0_A.sl.v325, kernelRun0_A.sl.v354, kernelRun0_A.sl.v357, kernelRun0_A.sl.v386, kernelRun0_A.sl.v389, kernelRun0_A.sl.v460, kernelRun0_A.sl.v461, kernelRun0_A.sl.v474, kernelRun0_A.sl.v476, kernelRun0_A.sl.v478, kernelRun0_A.sl.v480, kernelRun0_A.sl.v481, kernelRun0_A.sl.v572, kernelRun0_A.sl.v575, kernelRun0_A.sl.v604, kernelRun0_A.sl.v607, kernelRun0_A.sl.v636, kernelRun0_A.sl.v639, kernelRun0_A.sl.v668, kernelRun0_A.sl.v671, kernelRun0_A.sl.v700, kernelRun0_A.sl.v703, kernelRun0_A.sl.v732, kernelRun0_A.sl.v735, kernelRun0_A.sl.v764, kernelRun0_A.sl.v767, kernelRun0_A.sl.v796, kernelRun0_A.sl.v799, kernelRun0_A.sl.v828, kernelRun0_A.sl.v831, kernelRun0_A.sl.v860, kernelRun0_A.sl.v863, kernelRun0_A.sl.v892, kernelRun0_A.sl.v895, kernelRun0_A.sl.v924, kernelRun0_A.sl.v927, kernelRun0_A.sl.v998, kernelRun0_A.sl.v999, kernelRun0_A.sl.HS2_1, kernelRun0_A.sl.HS3_1, kernelRun0_A.sl.HS5_1, kernelRun0_A.sl.HS5_2, kernelRun0_A.sl.HS5_3, kernelRun0_A.sl.HS6_1, kernelRun0_A.sl.HS6_2, kernelRun0_A.sl.HS6_3, kernelRun0_A.sl.HS7_2, kernelRun0_A.sl.HS7_3, kernelRun0_A.sl.HS8_2, kernelRun0_A.sl.HS8_3, kernelRun0_A.sl.HS9_1, kernelRun0_A.sl.HS9_2, kernelRun0_A.sl.HS9_3, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.r_226, kernelRun0_A.sl.r_227, kernelRun0_A.sl.r_228, kernelRun0_A.sl.r_229, kernelRun0_A.sl.r_230, kernelRun0_A.sl.r_231, kernelRun0_A.sl.r_232, kernelRun0_A.sl.r_233, kernelRun0_A.sl.r_234, kernelRun0_A.sl.r_235, kernelRun0_A.sl.r_236, kernelRun0_A.sl.r_237, kernelRun0_A.sl.r_238, kernelRun0_A.sl.r_239, kernelRun0_A.sl.r_240, kernelRun0_A.sl.r_241, kernelRun0_A.sl.r_242, kernelRun0_A.sl.r_243, kernelRun0_A.sl.r_244, kernelRun0_A.sl.r_245, kernelRun0_A.sl.r_246, kernelRun0_A.sl.r_247, kernelRun0_A.sl.r_248, kernelRun0_A.sl.r_249, kernelRun0_A.sl.r_250, kernelRun0_A.sl.r_251, kernelRun0_A.sl.r_252, kernelRun0_A.sl.r_253, kernelRun0_A.sl.r_254, kernelRun0_A.sl.r_255, kernelRun0_A.sl.r_256, kernelRun0_A.sl.r_257, kernelRun0_A.sl.r_258, kernelRun0_A.sl.r_259, kernelRun0_A.sl.r_260, kernelRun0_A.sl.r_261, kernelRun0_A.sl.r_262, kernelRun0_A.sl.r_263, kernelRun0_A.sl.r_264, kernelRun0_A.sl.r_265, kernelRun0_A.sl.r_266, kernelRun0_A.sl.r_267, kernelRun0_A.sl.r_268, kernelRun0_A.sl.r_269, kernelRun0_A.sl.r_270, kernelRun0_A.sl.r_271, kernelRun0_A.sl.r_272, kernelRun0_A.sl.r_273, kernelRun0_A.sl.r_274, kernelRun0_A.sl.r_275, kernelRun0_A.sl.r_276, kernelRun0_A.sl.r_277, kernelRun0_A.sl.r_278, kernelRun0_A.sl.r_279, kernelRun0_A.sl.r_280, kernelRun0_A.sl.r_281, kernelRun0_A.sl.r_282, kernelRun0_A.sl.r_283, kernelRun0_A.sl.r_284, kernelRun0_A.sl.r_285, kernelRun0_A.sl.r_286, kernelRun0_A.sl.r_287, kernelRun0_A.sl.r_288, kernelRun0_A.sl.r_289, kernelRun0_A.sl.r_290, kernelRun0_A.sl.r_291, kernelRun0_A.sl.r_292, kernelRun0_A.sl.r_293, kernelRun0_A.sl.r_294, kernelRun0_A.sl.r_295, kernelRun0_A.sl.r_296, kernelRun0_A.sl.r_297, kernelRun0_A.sl.r_298, kernelRun0_A.sl.r_299, kernelRun0_A.sl.r_300, kernelRun0_A.sl.r_301, kernelRun0_A.sl.r_302, kernelRun0_A.sl.r_303, kernelRun0_A.sl.r_304, kernelRun0_A.sl.r_305, kernelRun0_A.sl.r_306, kernelRun0_A.sl.r_307, kernelRun0_A.sl.r_308, kernelRun0_A.sl.r_309, kernelRun0_A.sl.r_310, kernelRun0_A.sl.r_311, kernelRun0_A.sl.r_312, kernelRun0_A.sl.r_313, kernelRun0_A.sl.r_314, kernelRun0_A.sl.r_315, kernelRun0_A.sl.r_316, kernelRun0_A.sl.r_317, kernelRun0_A.sl.r_318, kernelRun0_A.sl.r_319, kernelRun0_A.sl.r_320, kernelRun0_A.sl.r_321, kernelRun0_A.sl.r_322, kernelRun0_A.sl.r_323, kernelRun0_A.sl.r_324, kernelRun0_A.sl.r_325, kernelRun0_A.sl.r_326, kernelRun0_A.sl.r_327, kernelRun0_A.sl.r_328, kernelRun0_A.sl.r_329, kernelRun0_A.sl.r_330, kernelRun0_A.sl.r_331, kernelRun0_A.sl.r_332, kernelRun0_A.sl.r_333, kernelRun0_A.sl.r_334, kernelRun0_A.sl.r_335, kernelRun0_A.sl.r_336, kernelRun0_A.sl.r_337, kernelRun0_A.sl.r_338, kernelRun0_A.sl.r_339, kernelRun0_A.sl.r_340, kernelRun0_A.sl.r_341, kernelRun0_A.sl.r_342, kernelRun0_A.sl.r_343, kernelRun0_A.sl.r_344, kernelRun0_A.sl.r_345, kernelRun0_A.sl.r_346, kernelRun0_A.sl.r_347, kernelRun0_A.sl.r_348, kernelRun0_A.sl.r_349, kernelRun0_A.sl.r_350, kernelRun0_A.sl.r_351, kernelRun0_A.sl.r_352, kernelRun0_A.sl.r_353, kernelRun0_A.sl.r_354, kernelRun0_A.sl.r_355, kernelRun0_A.sl.r_356, kernelRun0_A.sl.r_357, kernelRun0_A.sl.r_358, kernelRun0_A.sl.r_359, kernelRun0_A.sl.r_360, kernelRun0_A.sl.r_361, kernelRun0_A.sl.r_362, kernelRun0_A.sl.r_363, kernelRun0_A.sl.r_364, kernelRun0_A.sl.r_365, kernelRun0_A.sl.r_366, kernelRun0_A.sl.r_367, kernelRun0_A.sl.r_368, kernelRun0_A.sl.r_369, kernelRun0_A.sl.r_370, kernelRun0_A.sl.r_371, kernelRun0_A.sl.r_372, kernelRun0_A.sl.r_373, kernelRun0_A.sl.r_374, kernelRun0_A.sl.r_375, kernelRun0_A.sl.r_376, kernelRun0_A.sl.r_377, kernelRun0_A.sl.r_378, kernelRun0_A.sl.r_379, kernelRun0_A.sl.r_380, kernelRun0_A.sl.r_381, kernelRun0_A.sl.r_382, kernelRun0_A.sl.r_383, kernelRun0_A.sl.r_384, kernelRun0_A.sl.r_385, kernelRun0_A.sl.r_386, kernelRun0_A.sl.r_387, kernelRun0_A.sl.r_388, kernelRun0_A.sl.r_389, kernelRun0_A.sl.r_390, kernelRun0_A.sl.r_391, kernelRun0_A.sl.r_392, kernelRun0_A.sl.r_393, kernelRun0_A.sl.r_394, kernelRun0_A.sl.v1012, kernelRun0_A.sl.v1014, kernelRun0_A.sl.v1016, kernelRun0_A.sl.v1018, kernelRun0_A.sl.v1019, kernelRun0_A.sl.v1110, kernelRun0_A.sl.v1113, kernelRun0_A.sl.v1142, kernelRun0_A.sl.v1145, kernelRun0_A.sl.v1174, kernelRun0_A.sl.v1177, kernelRun0_A.sl.v1206, kernelRun0_A.sl.v1209, kernelRun0_A.sl.v1238, kernelRun0_A.sl.v1241, kernelRun0_A.sl.v1270, kernelRun0_A.sl.v1273, kernelRun0_A.sl.v1302, kernelRun0_A.sl.v1305, kernelRun0_A.sl.v1334, kernelRun0_A.sl.v1337, kernelRun0_A.sl.v1366, kernelRun0_A.sl.v1369, kernelRun0_A.sl.v1398, kernelRun0_A.sl.v1401, kernelRun0_A.sl.v1430, kernelRun0_A.sl.v1433, kernelRun0_A.sl.v1462, kernelRun0_A.sl.v1465, kernelRun0_A.sl.v1536, kernelRun0_A.sl.v1537, kernelRun0_A.sl.v1550, kernelRun0_A.sl.v1552, kernelRun0_A.sl.v1554, kernelRun0_A.sl.v1556, kernelRun0_A.sl.v1557, kernelRun0_A.sl.v1639, kernelRun0_A.sl.v1640, kernelRun0_A.sl.v1641, kernelRun0_A.sl.v1642, kernelRun0_A.sl.v1643, kernelRun0_A.sl.v1644, kernelRun0_A.sl.v1645, kernelRun0_A.sl.v1646, kernelRun0_A.sl.v1647, kernelRun0_A.sl.v1648, kernelRun0_A.sl.v1649, kernelRun0_A.sl.v1651, kernelRun0_A.sl.v1652, kernelRun0_A.sl.v1654, kernelRun0_A.sl.v1655, kernelRun0_A.sl.v1656, kernelRun0_A.sl.v1657, kernelRun0_A.sl.v1659, kernelRun0_A.sl.v1660, kernelRun0_A.sl.v1661, kernelRun0_A.sl.v1662, kernelRun0_A.sl.v1663, kernelRun0_A.sl.v1664, kernelRun0_A.sl.v1666, kernelRun0_A.sl.v1667, kernelRun0_A.sl.v1668, kernelRun0_A.sl.v1669, kernelRun0_A.sl.v1670, kernelRun0_A.sl.v1671, kernelRun0_A.sl.v1673, kernelRun0_A.sl.v1674, kernelRun0_A.sl.v1675, kernelRun0_A.sl.v1676, kernelRun0_A.sl.v1677, kernelRun0_A.sl.v1678, kernelRun0_A.sl.v1680, kernelRun0_A.sl.v1681, kernelRun0_A.sl.v1682, kernelRun0_A.sl.v1683, kernelRun0_A.sl.v1684, kernelRun0_A.sl.v1685, kernelRun0_A.sl.v1687, kernelRun0_A.sl.v1688, kernelRun0_A.sl.v1689, kernelRun0_A.sl.v1690, kernelRun0_A.sl.v1691, kernelRun0_A.sl.v1692, kernelRun0_A.sl.v1694, kernelRun0_A.sl.v1695, kernelRun0_A.sl.v1696, kernelRun0_A.sl.v1697, kernelRun0_A.sl.v1698, kernelRun0_A.sl.v1699, kernelRun0_A.sl.v1701, kernelRun0_A.sl.v1702, kernelRun0_A.sl.v1703, kernelRun0_A.sl.v1704, kernelRun0_A.sl.v1706, kernelRun0_A.sl.v1707, kernelRun0_A.sl.v1708, kernelRun0_A.sl.v1710, kernelRun0_A.sl.v1711, kernelRun0_A.sl.v1712, kernelRun0_A.sl.v1714, kernelRun0_A.sl.v1715, kernelRun0_A.sl.v1717, kernelRun0_A.sl.v1719, kernelRun0_A.sl.v1720, kernelRun0_A.sl.v1721, kernelRun0_A.sl.v1722, kernelRun0_A.sl.v1723, kernelRun0_A.sl.v1724, kernelRun0_A.sl.v1725, kernelRun0_A.sl.v1726, kernelRun0_A.sl.v1764, kernelRun0_A.sl.v1765, kernelRun0_A.sl.v1766, kernelRun0_A.sl.v1767, kernelRun0_A.sl.v1769, kernelRun0_A.sl.v1771, kernelRun0_A.sl.v1772, kernelRun0_A.sl.v1773, kernelRun0_A.sl.v1774, kernelRun0_A.sl.v1776, kernelRun0_A.sl.v1778, kernelRun0_A.sl.v1779, kernelRun0_A.sl.v1780, kernelRun0_A.sl.v1781, kernelRun0_A.sl.v1783, kernelRun0_A.sl.v1785, kernelRun0_A.sl.v1786, kernelRun0_A.sl.v1787, kernelRun0_A.sl.v1788, kernelRun0_A.sl.v1790, kernelRun0_A.sl.v1792, kernelRun0_A.sl.v1793, kernelRun0_A.sl.v1794, kernelRun0_A.sl.v1795, kernelRun0_A.sl.v1797, kernelRun0_A.sl.v1799, kernelRun0_A.sl.v1800, kernelRun0_A.sl.v1801, kernelRun0_A.sl.v1802, kernelRun0_A.sl.v1804, kernelRun0_A.sl.v1806, kernelRun0_A.sl.v1807, kernelRun0_A.sl.v1808, kernelRun0_A.sl.v1809, kernelRun0_A.sl.v1849, kernelRun0_A.sl.v1850, kernelRun0_A.sl.v1851, kernelRun0_A.sl.v1853, kernelRun0_A.sl.v1854, kernelRun0_A.sl.v1856, kernelRun0_A.sl.v1857, kernelRun0_A.sl.v1858, kernelRun0_A.sl.v1859, kernelRun0_A.sl.v1860, kernelRun0_A.sl.v1861, kernelRun0_A.sl.v1862, kernelRun0_A.sl.v1864, kernelRun0_A.sl.v1865, kernelRun0_A.sl.v1868, kernelRun0_A.sl.v1870, kernelRun0_A.sl.v1872, kernelRun0_A.sl.v1873, kernelRun0_A.sl.v1876, kernelRun0_A.sl.HS10_1, kernelRun0_A.sl.HS10_2, kernelRun0_A.sl.HS10_3, kernelRun0_A.sl.HS11_1, kernelRun0_A.sl.HS11_2, kernelRun0_A.sl.HS11_3, kernelRun0_A.sl.cst_294, kernelRun0_A.sl.cst_295, kernelRun0_A.sl.cst_311, kernelRun0_A.sl.cst_312, kernelRun0_A.sl.cst_371, kernelRun0_A.sl.cst_377,
    rd_unread, View.readCov_cons_toLoadRect, readCov_whole, ld_whole2]
  all_goals rfl
-- ==== Proof.KPointA.lean ====
module
public import proofs.«01_k».proof.Proof.KAcc
public import proofs.«01_k».proof.Proof.TieA
set_option maxRecDepth 16384
@[expose] public section
noncomputable section
namespace Cert.Proof.K
open Idealize Idealize.ShloMosaic Idealize.ShloMosaic.TcCoe
open Cert.KernelIdeal Cert.KernelIdeal.Gen Cert.KernelIdeal.Value

/-! # The first grid step -/

variable (m : (ℓ : Loc nD τ sig) → Buf (Elt Ideal) ℓ) (c : Dev nD) (t : Fin cfg0.N) (acc : Acc)

theorem first_codes (h0 : t.val % 99 = 0) (h1 : ¬ t.val % 99 = 98) : codesOf (stAt0 m c t.val t.isLt acc) = codesA (iblk m c 0 t) := by
  rw [stAt0_A m c t acc h0 h1, codesOf_mk]
  exact (tieA_quant _ _ _ _ _ _ _ _ _ _ _ _ _ _ _ _ _ _ _ _ _ _ _ _ _ _ _ _ _ _ _ _ _ _ _ _ _ _ _ _ _ _ _ _ _ _ _ _ _ _ _ _ _ _ _ _ _ _ _ _ _ _).2.2.2.1
theorem first_scales (h0 : t.val % 99 = 0) (h1 : ¬ t.val % 99 = 98) : scalesOf (stAt0 m c t.val t.isLt acc) = scalesA (iblk m c 0 t) := by
  rw [stAt0_A m c t acc h0 h1, scalesOf_mk]
  exact (tieA_quant _ _ _ _ _ _ _ _ _ _ _ _ _ _ _ _ _ _ _ _ _ _ _ _ _ _ _ _ _ _ _ _ _ _ _ _ _ _ _ _ _ _ _ _ _ _ _ _ _ _ _ _ _ _ _ _ _ _ _ _ _ _).2.2.2.2
theorem first_xc (h0 : t.val % 99 = 0) (h1 : ¬ t.val % 99 = 98) : xcOf (stAt0 m c t.val t.isLt acc) = xcA (iblk m c 0 t) := by
  rw [stAt0_A m c t acc h0 h1, xcOf_mk]
  exact (tieA_quant _ _ _ _ _ _ _ _ _ _ _ _ _ _ _ _ _ _ _ _ _ _ _ _ _ _ _ _ _ _ _ _ _ _ _ _ _ _ _ _ _ _ _ _ _ _ _ _ _ _ _ _ _ _ _ _ _ _ _ _ _ _).1
theorem first_coef (h0 : t.val % 99 = 0) (h1 : ¬ t.val % 99 = 98) : coefOf (stAt0 m c t.val t.isLt acc) = coefA (iblk m c 0 t) := by
  rw [stAt0_A m c t acc h0 h1, coefOf_mk]
  exact (tieA_quant _ _ _ _ _ _ _ _ _ _ _ _ _ _ _ _ _ _ _ _ _ _ _ _ _ _ _ _ _ _ _ _ _ _ _ _ _ _ _ _ _ _ _ _ _ _ _ _ _ _ _ _ _ _ _ _ _ _ _ _ _ _).2.1
theorem first_tgt (h0 : t.val % 99 = 0) (h1 : ¬ t.val % 99 = 98) : tgtOf (stAt0 m c t.val t.isLt acc) = tgtA (iblk m c 7 t) := by
  rw [stAt0_A m c t acc h0 h1, tgtOf_mk]
  exact (tieA_quant _ _ _ _ _ _ _ _ _ _ _ _ _ _ _ _ _ _ _ _ _ _ _ _ _ _ _ _ _ _ _ _ _ _ _ _ _ _ _ _ _ _ _ _ _ _ _ _ _ _ _ _ _ _ _ _ _ _ _ _ _ _).2.2.1
theorem first_st (h0 : t.val % 99 = 0) (h1 : ¬ t.val % 99 = 98) : stOf (stAt0 m c t.val t.isLt acc) = stepAt m c t (xcA (iblk m c 0 t)) (coefA (iblk m c 0 t)) (tgtA (iblk m c 7 t)) stA := by
  rw [stAt0_A m c t acc h0 h1, stOf_mk]
  exact St.eq (tieA_state _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.Proof.K
-- ==== Proof.TieB.lean ====
module
public import proofs.«01_k».proof.Proof.TieLib
set_option maxRecDepth 16384
set_option maxHeartbeats 4000000
@[expose] public section
noncomputable section
namespace Cert.KernelIdeal.Gen
open Idealize.ShloMosaic Idealize.ShloMosaic.TcCoe
variable {F : FTy → Type} [FloatOps F] [Named F]

/-! What a middle grid step leaves in each running vector. -/

variable (c : Dev nD) (i : grid0.Coords) (arg1 : Memref sig .tc .vmem S2x128x1536 .bf16) (harg1 : arg1.IsWhole) (arg2 : Memref sig .tc .vmem S256x1536 .bf16) (harg2 : arg2.IsWhole) (arg3 : Memref sig .tc .vmem S1536x1536 .fp8e4m3) (harg3 : arg3.IsWhole) (arg4 : Memref sig .tc .vmem S1x1536 .f32) (harg4 : arg4.IsWhole) (arg5 : Memref sig .tc .vmem S1536x768 .i8) (harg5 : arg5.IsWhole) (arg6 : Memref sig .tc .vmem S12x1536 .f32) (harg6 : arg6.IsWhole) (arg7 : Memref sig .tc .vmem S12x1536 .i8) (harg7 : arg7.IsWhole) (arg8 : Memref sig .tc .vmem S2x128 .i32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128x1536 .fp8e4m3) (harg12 : arg12.IsWhole) (arg13 : Memref sig .tc .vmem S2x128 .f32) (harg13 : arg13.IsWhole) (arg14 : Memref sig .tc .vmem S256x1536 .fp8e4m3) (harg14 : arg14.IsWhole) (arg15 : Memref sig .tc .vmem S256x128 .f32) (harg15 : arg15.IsWhole) (arg16 : Memref sig .tc .vmem S12x1536 .bf16) (harg16 : arg16.IsWhole) (arg17 : Memref sig .tc .vmem S12x1536 .bf16) (harg17 : arg17.IsWhole) (arg18 : Memref sig .tc .vmem S256x128 .i32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (hc0 : ¬cond0_0 i) (hc1 : ¬cond0_1 i)
    (x0 : Vec F S2x128x1536 .bf16) (x1 : Vec F S256x1536 .bf16) (x2 : Vec F S1536x1536 .fp8e4m3) (x3 : Vec F S1x1536 .f32) (x4 : Vec F S1536x768 .i8) (x5 : Vec F S12x1536 .f32) (x6 : Vec F S12x1536 .i8) (x7 : Vec F S2x128 .i32) (xs0 : Vec F S256x1536 .fp8e4m3) (xs1 : Vec F S256x128 .f32) (xs4 : Vec F S256x128 .i32) (xs5 : Vec F S256x128 .f32) (xs6 : Vec F S256x128 .f32) (xs7 : Vec F S256x128 .f32) (xs8 : Vec F S256x128 .f32) (xs9 : Vec F S256x128 .f32) (xs10 : Vec F S256x128 .f32) (xs11 : Vec F S256x128 .f32)

theorem tieB_state : sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 xs0 xs1 xs4 xs5 xs6 xs7 xs8 xs9 xs10 xs11 = (Cert.Proof.K.step (BitVec.ofNat 32 (i 0).val) (k0_pay58 x1) xs0 xs1 xs4 x2 x3 x4 (k0_pay56 x5) (k0_pay57 x6) ⟨xs5, xs6, xs7, xs8, xs9, xs10, xs11⟩).mp ∧
    sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 xs0 xs1 xs4 xs5 xs6 xs7 xs8 xs9 xs10 xs11 = (Cert.Proof.K.step (BitVec.ofNat 32 (i 0).val) (k0_pay58 x1) xs0 xs1 xs4 x2 x3 x4 (k0_pay56 x5) (k0_pay57 x6) ⟨xs5, xs6, xs7, xs8, xs9, xs10, xs11⟩).sp ∧
    sout0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 xs0 xs1 xs4 xs5 xs6 xs7 xs8 xs9 xs10 xs11 = (Cert.Proof.K.step (BitVec.ofNat 32 (i 0).val) (k0_pay58 x1) xs0 xs1 xs4 x2 x3 x4 (k0_pay56 x5) (k0_pay57 x6) ⟨xs5, xs6, xs7, xs8, xs9, xs10, xs11⟩).ka ∧
    sout0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 xs0 xs1 xs4 xs5 xs6 xs7 xs8 xs9 xs10 xs11 = (Cert.Proof.K.step (BitVec.ofNat 32 (i 0).val) (k0_pay58 x1) xs0 xs1 xs4 x2 x3 x4 (k0_pay56 x5) (k0_pay57 x6) ⟨xs5, xs6, xs7, xs8, xs9, xs10, xs11⟩).mq ∧
    sout0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 xs0 xs1 xs4 xs5 xs6 xs7 xs8 xs9 xs10 xs11 = (Cert.Proof.K.step (BitVec.ofNat 32 (i 0).val) (k0_pay58 x1) xs0 xs1 xs4 x2 x3 x4 (k0_pay56 x5) (k0_pay57 x6) ⟨xs5, xs6, xs7, xs8, xs9, xs10, xs11⟩).sq ∧
    sout0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 xs0 xs1 xs4 xs5 xs6 xs7 xs8 xs9 xs10 xs11 = (Cert.Proof.K.step (BitVec.ofNat 32 (i 0).val) (k0_pay58 x1) xs0 xs1 xs4 x2 x3 x4 (k0_pay56 x5) (k0_pay57 x6) ⟨xs5, xs6, xs7, xs8, xs9, xs10, xs11⟩).tp ∧
    sout0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 xs0 xs1 xs4 xs5 xs6 xs7 xs8 xs9 xs10 xs11 = (Cert.Proof.K.step (BitVec.ofNat 32 (i 0).val) (k0_pay58 x1) xs0 xs1 xs4 x2 x3 x4 (k0_pay56 x5) (k0_pay57 x6) ⟨xs5, xs6, xs7, xs8, xs9, xs10, xs11⟩).tq := by
  unfold sout0_B_5 sout0_B_6 sout0_B_7 sout0_B_8 sout0_B_9 sout0_B_10 sout0_B_11 kernelRun0_B
  dsimp only
  refine ⟨?_, ?_, ?_, ?_, ?_, ?_, ?_⟩
  all_goals rw [View.read_writes_junk_eq_canon]
  all_goals rw [View.canon_cons_unit_zero zero2]
  all_goals simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.v20, kernelRun0_B.sl.v34, kernelRun0_B.sl.v37, kernelRun0_B.sl.v66, kernelRun0_B.sl.v69, kernelRun0_B.sl.v98, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.r_88, kernelRun0_B.sl.r_89, kernelRun0_B.sl.r_90, kernelRun0_B.sl.r_91, kernelRun0_B.sl.r_92, kernelRun0_B.sl.r_93, kernelRun0_B.sl.r_94, kernelRun0_B.sl.r_95, kernelRun0_B.sl.r_96, kernelRun0_B.sl.r_97, kernelRun0_B.sl.r_98, kernelRun0_B.sl.r_99, kernelRun0_B.sl.v101, kernelRun0_B.sl.v130, kernelRun0_B.sl.v133, kernelRun0_B.sl.v162, kernelRun0_B.sl.v165, kernelRun0_B.sl.v194, kernelRun0_B.sl.v197, kernelRun0_B.sl.v226, kernelRun0_B.sl.v229, kernelRun0_B.sl.v258, kernelRun0_B.sl.v261, kernelRun0_B.sl.v290, kernelRun0_B.sl.v293, kernelRun0_B.sl.v322, kernelRun0_B.sl.v325, kernelRun0_B.sl.v354, kernelRun0_B.sl.v357, kernelRun0_B.sl.v386, kernelRun0_B.sl.v389, kernelRun0_B.sl.v572, kernelRun0_B.sl.v575, kernelRun0_B.sl.v604, kernelRun0_B.sl.v607, kernelRun0_B.sl.v636, kernelRun0_B.sl.v639, kernelRun0_B.sl.v668, kernelRun0_B.sl.v671, kernelRun0_B.sl.v700, kernelRun0_B.sl.v703, kernelRun0_B.sl.v732, kernelRun0_B.sl.v735, kernelRun0_B.sl.v764, kernelRun0_B.sl.v767, kernelRun0_B.sl.v796, kernelRun0_B.sl.v799, kernelRun0_B.sl.v828, kernelRun0_B.sl.v831, kernelRun0_B.sl.v860, kernelRun0_B.sl.v863, kernelRun0_B.sl.v892, kernelRun0_B.sl.v895, kernelRun0_B.sl.v924, kernelRun0_B.sl.v927, kernelRun0_B.sl.v998, kernelRun0_B.sl.v999, kernelRun0_B.sl.HS2_1, kernelRun0_B.sl.HS3_1, kernelRun0_B.sl.HS5_1, kernelRun0_B.sl.HS5_2, kernelRun0_B.sl.HS6_1, kernelRun0_B.sl.HS6_2, kernelRun0_B.sl.HS7_1, kernelRun0_B.sl.HS7_2, kernelRun0_B.sl.HS8_1, kernelRun0_B.sl.HS8_2, kernelRun0_B.sl.HS9_1, kernelRun0_B.sl.HS9_2, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_109, kernelRun0_B.sl.r_110, kernelRun0_B.sl.r_111, kernelRun0_B.sl.r_112, kernelRun0_B.sl.r_113, kernelRun0_B.sl.r_114, kernelRun0_B.sl.r_115, kernelRun0_B.sl.r_116, kernelRun0_B.sl.r_117, kernelRun0_B.sl.r_118, kernelRun0_B.sl.r_119, kernelRun0_B.sl.r_120, kernelRun0_B.sl.r_121, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_167, kernelRun0_B.sl.r_168, kernelRun0_B.sl.r_169, kernelRun0_B.sl.r_170, kernelRun0_B.sl.r_171, kernelRun0_B.sl.r_172, kernelRun0_B.sl.r_173, kernelRun0_B.sl.r_174, kernelRun0_B.sl.r_175, kernelRun0_B.sl.r_176, kernelRun0_B.sl.r_177, kernelRun0_B.sl.r_178, kernelRun0_B.sl.r_179, kernelRun0_B.sl.r_180, kernelRun0_B.sl.r_181, kernelRun0_B.sl.r_182, kernelRun0_B.sl.r_183, kernelRun0_B.sl.r_184, kernelRun0_B.sl.r_185, kernelRun0_B.sl.r_186, kernelRun0_B.sl.r_187, kernelRun0_B.sl.r_188, kernelRun0_B.sl.r_189, kernelRun0_B.sl.r_190, kernelRun0_B.sl.r_191, kernelRun0_B.sl.r_192, kernelRun0_B.sl.r_193, kernelRun0_B.sl.r_194, kernelRun0_B.sl.r_195, kernelRun0_B.sl.r_196, kernelRun0_B.sl.r_197, kernelRun0_B.sl.r_198, kernelRun0_B.sl.r_199, kernelRun0_B.sl.r_200, kernelRun0_B.sl.r_201, kernelRun0_B.sl.r_202, kernelRun0_B.sl.r_203, kernelRun0_B.sl.r_204, kernelRun0_B.sl.r_205, kernelRun0_B.sl.r_206, kernelRun0_B.sl.r_207, kernelRun0_B.sl.r_208, kernelRun0_B.sl.r_209, kernelRun0_B.sl.r_210, kernelRun0_B.sl.r_211, kernelRun0_B.sl.r_212, kernelRun0_B.sl.r_213, kernelRun0_B.sl.r_214, kernelRun0_B.sl.r_215, kernelRun0_B.sl.r_216, kernelRun0_B.sl.r_217, kernelRun0_B.sl.r_218, kernelRun0_B.sl.r_219, kernelRun0_B.sl.r_220, kernelRun0_B.sl.r_221, kernelRun0_B.sl.r_222, kernelRun0_B.sl.r_223, kernelRun0_B.sl.r_224, kernelRun0_B.sl.r_225, kernelRun0_B.sl.r_226, kernelRun0_B.sl.r_227, kernelRun0_B.sl.r_228, kernelRun0_B.sl.r_229, kernelRun0_B.sl.r_230, kernelRun0_B.sl.r_231, kernelRun0_B.sl.r_232, kernelRun0_B.sl.r_233, kernelRun0_B.sl.r_234, kernelRun0_B.sl.r_235, kernelRun0_B.sl.r_236, kernelRun0_B.sl.r_237, kernelRun0_B.sl.r_238, kernelRun0_B.sl.r_239, kernelRun0_B.sl.r_240, kernelRun0_B.sl.r_241, kernelRun0_B.sl.r_242, kernelRun0_B.sl.r_243, kernelRun0_B.sl.r_244, kernelRun0_B.sl.r_245, kernelRun0_B.sl.r_246, kernelRun0_B.sl.r_247, kernelRun0_B.sl.r_248, kernelRun0_B.sl.r_249, kernelRun0_B.sl.r_250, kernelRun0_B.sl.r_251, kernelRun0_B.sl.r_252, kernelRun0_B.sl.r_253, kernelRun0_B.sl.r_254, kernelRun0_B.sl.r_255, kernelRun0_B.sl.r_256, kernelRun0_B.sl.r_257, kernelRun0_B.sl.r_258, kernelRun0_B.sl.r_259, kernelRun0_B.sl.r_260, kernelRun0_B.sl.r_261, kernelRun0_B.sl.r_262, kernelRun0_B.sl.r_263, kernelRun0_B.sl.r_264, kernelRun0_B.sl.r_265, kernelRun0_B.sl.r_266, kernelRun0_B.sl.r_267, kernelRun0_B.sl.r_268, kernelRun0_B.sl.r_269, kernelRun0_B.sl.r_270, kernelRun0_B.sl.r_271, kernelRun0_B.sl.r_272, kernelRun0_B.sl.r_273, kernelRun0_B.sl.r_274, kernelRun0_B.sl.r_275, kernelRun0_B.sl.r_276, kernelRun0_B.sl.r_277, kernelRun0_B.sl.r_278, kernelRun0_B.sl.r_279, kernelRun0_B.sl.r_280, kernelRun0_B.sl.r_281, kernelRun0_B.sl.r_282, kernelRun0_B.sl.r_283, kernelRun0_B.sl.r_284, kernelRun0_B.sl.r_285, kernelRun0_B.sl.r_286, kernelRun0_B.sl.r_287, kernelRun0_B.sl.r_288, kernelRun0_B.sl.r_289, kernelRun0_B.sl.r_290, kernelRun0_B.sl.r_291, kernelRun0_B.sl.r_292, kernelRun0_B.sl.r_293, kernelRun0_B.sl.r_294, kernelRun0_B.sl.r_295, kernelRun0_B.sl.r_296, kernelRun0_B.sl.r_297, kernelRun0_B.sl.r_298, kernelRun0_B.sl.r_299, kernelRun0_B.sl.r_300, kernelRun0_B.sl.r_301, kernelRun0_B.sl.r_302, kernelRun0_B.sl.r_303, kernelRun0_B.sl.r_304, kernelRun0_B.sl.r_305, kernelRun0_B.sl.r_306, kernelRun0_B.sl.r_307, kernelRun0_B.sl.r_308, kernelRun0_B.sl.r_309, kernelRun0_B.sl.r_310, kernelRun0_B.sl.r_311, kernelRun0_B.sl.r_312, kernelRun0_B.sl.r_313, kernelRun0_B.sl.r_314, kernelRun0_B.sl.r_315, kernelRun0_B.sl.r_316, kernelRun0_B.sl.r_317, kernelRun0_B.sl.r_318, kernelRun0_B.sl.r_319, kernelRun0_B.sl.r_320, kernelRun0_B.sl.r_321, kernelRun0_B.sl.r_322, kernelRun0_B.sl.r_323, kernelRun0_B.sl.r_324, kernelRun0_B.sl.r_325, kernelRun0_B.sl.r_326, kernelRun0_B.sl.r_327, kernelRun0_B.sl.r_328, kernelRun0_B.sl.r_329, kernelRun0_B.sl.r_330, kernelRun0_B.sl.r_331, kernelRun0_B.sl.r_332, kernelRun0_B.sl.r_333, kernelRun0_B.sl.r_334, kernelRun0_B.sl.r_335, kernelRun0_B.sl.r_336, kernelRun0_B.sl.r_337, kernelRun0_B.sl.r_338, kernelRun0_B.sl.r_339, kernelRun0_B.sl.r_340, kernelRun0_B.sl.r_341, kernelRun0_B.sl.r_342, kernelRun0_B.sl.r_343, kernelRun0_B.sl.r_344, kernelRun0_B.sl.r_345, kernelRun0_B.sl.r_346, kernelRun0_B.sl.r_347, kernelRun0_B.sl.r_348, kernelRun0_B.sl.r_349, kernelRun0_B.sl.r_350, kernelRun0_B.sl.r_351, kernelRun0_B.sl.r_352, kernelRun0_B.sl.r_353, kernelRun0_B.sl.r_354, kernelRun0_B.sl.r_355, kernelRun0_B.sl.r_356, kernelRun0_B.sl.r_357, kernelRun0_B.sl.r_358, kernelRun0_B.sl.r_359, kernelRun0_B.sl.r_360, kernelRun0_B.sl.r_361, kernelRun0_B.sl.r_362, kernelRun0_B.sl.r_363, kernelRun0_B.sl.r_364, kernelRun0_B.sl.r_365, kernelRun0_B.sl.r_366, kernelRun0_B.sl.r_367, kernelRun0_B.sl.r_368, kernelRun0_B.sl.r_369, kernelRun0_B.sl.r_370, kernelRun0_B.sl.r_371, kernelRun0_B.sl.r_372, kernelRun0_B.sl.r_373, kernelRun0_B.sl.r_374, kernelRun0_B.sl.r_375, kernelRun0_B.sl.r_376, kernelRun0_B.sl.r_377, kernelRun0_B.sl.r_378, kernelRun0_B.sl.r_379, kernelRun0_B.sl.r_380, kernelRun0_B.sl.r_381, kernelRun0_B.sl.r_382, kernelRun0_B.sl.r_383, kernelRun0_B.sl.r_384, kernelRun0_B.sl.r_385, kernelRun0_B.sl.r_386, kernelRun0_B.sl.r_387, kernelRun0_B.sl.r_388, kernelRun0_B.sl.r_389, kernelRun0_B.sl.r_390, kernelRun0_B.sl.r_391, kernelRun0_B.sl.r_392, kernelRun0_B.sl.v1012, kernelRun0_B.sl.v1014, kernelRun0_B.sl.v1016, kernelRun0_B.sl.v1018, kernelRun0_B.sl.v1019, kernelRun0_B.sl.v1110, kernelRun0_B.sl.v1113, kernelRun0_B.sl.v1142, kernelRun0_B.sl.v1145, kernelRun0_B.sl.v1174, kernelRun0_B.sl.v1177, kernelRun0_B.sl.v1206, kernelRun0_B.sl.v1209, kernelRun0_B.sl.v1238, kernelRun0_B.sl.v1241, kernelRun0_B.sl.v1270, kernelRun0_B.sl.v1273, kernelRun0_B.sl.v1302, kernelRun0_B.sl.v1305, kernelRun0_B.sl.v1334, kernelRun0_B.sl.v1337, kernelRun0_B.sl.v1366, kernelRun0_B.sl.v1369, kernelRun0_B.sl.v1398, kernelRun0_B.sl.v1401, kernelRun0_B.sl.v1430, kernelRun0_B.sl.v1433, kernelRun0_B.sl.v1462, kernelRun0_B.sl.v1465, kernelRun0_B.sl.v1536, kernelRun0_B.sl.v1537, kernelRun0_B.sl.v1550, kernelRun0_B.sl.v1552, kernelRun0_B.sl.v1554, kernelRun0_B.sl.v1556, kernelRun0_B.sl.v1557, kernelRun0_B.sl.HS10_1, kernelRun0_B.sl.HS10_2, kernelRun0_B.sl.HS11_1, kernelRun0_B.sl.HS11_2,
    rd_unread, View.readCov_cons_toLoadRect, readCov_whole, ld_whole2]
  all_goals rfl
-- ==== Proof.KPointB.lean ====
module
public import proofs.«01_k».proof.Proof.KAcc
public import proofs.«01_k».proof.Proof.TieB
set_option maxRecDepth 16384
@[expose] public section
noncomputable section
namespace Cert.Proof.K
open Idealize Idealize.ShloMosaic Idealize.ShloMosaic.TcCoe
open Cert.KernelIdeal Cert.KernelIdeal.Gen Cert.KernelIdeal.Value

/-! # A grid step between -/

variable (m : (ℓ : Loc nD τ sig) → Buf (Elt Ideal) ℓ) (c : Dev nD) (t : Fin cfg0.N) (acc : Acc)

theorem next_codes (h0 : ¬ t.val % 99 = 0) (h1 : ¬ t.val % 99 = 98) : codesOf (stAt0 m c t.val t.isLt acc) = codesOf acc := by
  rw [stAt0_B m c t acc h0 h1, codesOf_mk]
  exact rfl
theorem next_scales (h0 : ¬ t.val % 99 = 0) (h1 : ¬ t.val % 99 = 98) : scalesOf (stAt0 m c t.val t.isLt acc) = scalesOf acc := by
  rw [stAt0_B m c t acc h0 h1, scalesOf_mk]
  exact rfl
theorem next_xc (h0 : ¬ t.val % 99 = 0) (h1 : ¬ t.val % 99 = 98) : xcOf (stAt0 m c t.val t.isLt acc) = xcOf acc := by
  rw [stAt0_B m c t acc h0 h1, xcOf_mk]
  exact rfl
theorem next_coef (h0 : ¬ t.val % 99 = 0) (h1 : ¬ t.val % 99 = 98) : coefOf (stAt0 m c t.val t.isLt acc) = coefOf acc := by
  rw [stAt0_B m c t acc h0 h1, coefOf_mk]
  exact rfl
theorem next_tgt (h0 : ¬ t.val % 99 = 0) (h1 : ¬ t.val % 99 = 98) : tgtOf (stAt0 m c t.val t.isLt acc) = tgtOf acc := by
  rw [stAt0_B m c t acc h0 h1, tgtOf_mk]
  exact rfl
theorem next_st (h0 : ¬ t.val % 99 = 0) (h1 : ¬ t.val % 99 = 98) : stOf (stAt0 m c t.val t.isLt acc) = stepAt m c t (xcOf acc) (coefOf acc) (tgtOf acc) (stOf acc) := by
  rw [stAt0_B m c t acc h0 h1, stOf_mk]
  exact St.eq (tieB_state _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.Proof.K
-- ==== Proof.TieC.lean ====
module
public import proofs.«01_k».proof.Proof.TieLib
set_option maxRecDepth 16384
set_option maxHeartbeats 4000000
@[expose] public section
noncomputable section
namespace Cert.KernelIdeal.Gen
open Idealize.ShloMosaic Idealize.ShloMosaic.TcCoe
variable {F : FTy → Type} [FloatOps F] [Named F]

/-! What the last grid step leaves in each result. -/

variable (c : Dev nD) (i : grid0.Coords) (arg1 : Memref sig .tc .vmem S2x128x1536 .bf16) (harg1 : arg1.IsWhole) (arg2 : Memref sig .tc .vmem S256x1536 .bf16) (harg2 : arg2.IsWhole) (arg3 : Memref sig .tc .vmem S1536x1536 .fp8e4m3) (harg3 : arg3.IsWhole) (arg4 : Memref sig .tc .vmem S1x1536 .f32) (harg4 : arg4.IsWhole) (arg5 : Memref sig .tc .vmem S1536x768 .i8) (harg5 : arg5.IsWhole) (arg6 : Memref sig .tc .vmem S12x1536 .f32) (harg6 : arg6.IsWhole) (arg7 : Memref sig .tc .vmem S12x1536 .i8) (harg7 : arg7.IsWhole) (arg8 : Memref sig .tc .vmem S2x128 .i32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128x1536 .fp8e4m3) (harg12 : arg12.IsWhole) (arg13 : Memref sig .tc .vmem S2x128 .f32) (harg13 : arg13.IsWhole) (arg14 : Memref sig .tc .vmem S256x1536 .fp8e4m3) (harg14 : arg14.IsWhole) (arg15 : Memref sig .tc .vmem S256x128 .f32) (harg15 : arg15.IsWhole) (arg16 : Memref sig .tc .vmem S12x1536 .bf16) (harg16 : arg16.IsWhole) (arg17 : Memref sig .tc .vmem S12x1536 .bf16) (harg17 : arg17.IsWhole) (arg18 : Memref sig .tc .vmem S256x128 .i32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (hc0 : ¬cond0_0 i) (hc1 : cond0_1 i)
    (x0 : Vec F S2x128x1536 .bf16) (x1 : Vec F S256x1536 .bf16) (x2 : Vec F S1536x1536 .fp8e4m3) (x3 : Vec F S1x1536 .f32) (x4 : Vec F S1536x768 .i8) (x5 : Vec F S12x1536 .f32) (x6 : Vec F S12x1536 .i8) (x7 : Vec F S2x128 .i32) (xo11 : Vec F S2x128x1536 .fp8e4m3) (xo12 : Vec F S2x128 .f32) (xs0 : Vec F S256x1536 .fp8e4m3) (xs1 : Vec F S256x128 .f32) (xs4 : Vec F S256x128 .i32) (xs5 : Vec F S256x128 .f32) (xs6 : Vec F S256x128 .f32) (xs7 : Vec F S256x128 .f32) (xs8 : Vec F S256x128 .f32) (xs9 : Vec F S256x128 .f32) (xs10 : Vec F S256x128 .f32) (xs11 : Vec F S256x128 .f32)

theorem tieC_out : out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 xo11 xo12 xs0 xs1 xs4 xs5 xs6 xs7 xs8 xs9 xs10 xs11 = Cert.Proof.K.outLp (Cert.Proof.K.step (BitVec.ofNat 32 (i 0).val) (k0_pay58 x1) xs0 xs1 xs4 x2 x3 x4 (k0_pay56 x5) (k0_pay57 x6) ⟨xs5, xs6, xs7, xs8, xs9, xs10, xs11⟩) ∧
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 xo11 xo12 xs0 xs1 xs4 xs5 xs6 xs7 xs8 xs9 xs10 xs11 = Cert.Proof.K.outLq (Cert.Proof.K.step (BitVec.ofNat 32 (i 0).val) (k0_pay58 x1) xs0 xs1 xs4 x2 x3 x4 (k0_pay56 x5) (k0_pay57 x6) ⟨xs5, xs6, xs7, xs8, xs9, xs10, xs11⟩) ∧
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 xo11 xo12 xs0 xs1 xs4 xs5 xs6 xs7 xs8 xs9 xs10 xs11 = Cert.Proof.K.outKl (Cert.Proof.K.step (BitVec.ofNat 32 (i 0).val) (k0_pay58 x1) xs0 xs1 xs4 x2 x3 x4 (k0_pay56 x5) (k0_pay57 x6) ⟨xs5, xs6, xs7, xs8, xs9, xs10, xs11⟩) := by
  unfold out0_C_8 out0_C_9 out0_C_10 kernelRun0_C
  dsimp only
  refine ⟨?_, ?_, ?_⟩
  all_goals rw [View.read_writes_junk_eq_canon]
  all_goals simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.v20, kernelRun0_C.sl.v34, kernelRun0_C.sl.v37, kernelRun0_C.sl.v66, kernelRun0_C.sl.v69, kernelRun0_C.sl.v98, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_39, kernelRun0_C.sl.r_40, kernelRun0_C.sl.r_41, kernelRun0_C.sl.r_42, kernelRun0_C.sl.r_43, kernelRun0_C.sl.r_44, kernelRun0_C.sl.r_45, kernelRun0_C.sl.r_46, kernelRun0_C.sl.r_47, kernelRun0_C.sl.r_48, kernelRun0_C.sl.r_49, kernelRun0_C.sl.r_50, kernelRun0_C.sl.r_51, kernelRun0_C.sl.r_52, kernelRun0_C.sl.r_53, kernelRun0_C.sl.r_54, kernelRun0_C.sl.r_55, kernelRun0_C.sl.r_56, kernelRun0_C.sl.r_57, kernelRun0_C.sl.r_58, kernelRun0_C.sl.r_59, kernelRun0_C.sl.r_60, kernelRun0_C.sl.r_61, kernelRun0_C.sl.r_62, kernelRun0_C.sl.r_63, kernelRun0_C.sl.r_64, kernelRun0_C.sl.r_65, kernelRun0_C.sl.r_66, kernelRun0_C.sl.r_67, kernelRun0_C.sl.r_68, kernelRun0_C.sl.r_69, kernelRun0_C.sl.r_70, kernelRun0_C.sl.r_71, kernelRun0_C.sl.r_72, kernelRun0_C.sl.r_73, kernelRun0_C.sl.r_74, kernelRun0_C.sl.r_75, kernelRun0_C.sl.r_76, kernelRun0_C.sl.r_77, kernelRun0_C.sl.r_78, kernelRun0_C.sl.r_79, kernelRun0_C.sl.r_80, kernelRun0_C.sl.r_81, kernelRun0_C.sl.r_82, kernelRun0_C.sl.r_83, kernelRun0_C.sl.r_84, kernelRun0_C.sl.r_85, kernelRun0_C.sl.r_86, kernelRun0_C.sl.r_87, kernelRun0_C.sl.r_88, kernelRun0_C.sl.r_89, kernelRun0_C.sl.r_90, kernelRun0_C.sl.r_91, kernelRun0_C.sl.r_92, kernelRun0_C.sl.r_93, kernelRun0_C.sl.r_94, kernelRun0_C.sl.r_95, kernelRun0_C.sl.r_96, kernelRun0_C.sl.r_97, kernelRun0_C.sl.r_98, kernelRun0_C.sl.r_99, kernelRun0_C.sl.v101, kernelRun0_C.sl.v130, kernelRun0_C.sl.v133, kernelRun0_C.sl.v162, kernelRun0_C.sl.v165, kernelRun0_C.sl.v194, kernelRun0_C.sl.v197, kernelRun0_C.sl.v226, kernelRun0_C.sl.v229, kernelRun0_C.sl.v258, kernelRun0_C.sl.v261, kernelRun0_C.sl.v290, kernelRun0_C.sl.v293, kernelRun0_C.sl.v322, kernelRun0_C.sl.v325, kernelRun0_C.sl.v354, kernelRun0_C.sl.v357, kernelRun0_C.sl.v386, kernelRun0_C.sl.v389, kernelRun0_C.sl.v572, kernelRun0_C.sl.v575, kernelRun0_C.sl.v604, kernelRun0_C.sl.v607, kernelRun0_C.sl.v636, kernelRun0_C.sl.v639, kernelRun0_C.sl.v668, kernelRun0_C.sl.v671, kernelRun0_C.sl.v700, kernelRun0_C.sl.v703, kernelRun0_C.sl.v732, kernelRun0_C.sl.v735, kernelRun0_C.sl.v764, kernelRun0_C.sl.v767, kernelRun0_C.sl.v796, kernelRun0_C.sl.v799, kernelRun0_C.sl.v828, kernelRun0_C.sl.v831, kernelRun0_C.sl.v860, kernelRun0_C.sl.v863, kernelRun0_C.sl.v892, kernelRun0_C.sl.v895, kernelRun0_C.sl.v924, kernelRun0_C.sl.v927, kernelRun0_C.sl.v998, kernelRun0_C.sl.v999, kernelRun0_C.sl.HS2_1, kernelRun0_C.sl.HS3_1, kernelRun0_C.sl.HS5_1, kernelRun0_C.sl.HS5_2, kernelRun0_C.sl.HS5_3, kernelRun0_C.sl.HS6_1, kernelRun0_C.sl.HS6_2, kernelRun0_C.sl.HS6_3, kernelRun0_C.sl.HS7_1, kernelRun0_C.sl.HS7_2, kernelRun0_C.sl.HS7_3, kernelRun0_C.sl.HS8_1, kernelRun0_C.sl.HS8_2, kernelRun0_C.sl.HS8_3, kernelRun0_C.sl.HS9_1, kernelRun0_C.sl.HS9_2, kernelRun0_C.sl.HS9_3, kernelRun0_C.sl.r_100, kernelRun0_C.sl.r_101, kernelRun0_C.sl.r_102, kernelRun0_C.sl.r_103, kernelRun0_C.sl.r_104, kernelRun0_C.sl.r_105, kernelRun0_C.sl.r_106, kernelRun0_C.sl.r_107, kernelRun0_C.sl.r_108, kernelRun0_C.sl.r_109, kernelRun0_C.sl.r_110, kernelRun0_C.sl.r_111, kernelRun0_C.sl.r_112, kernelRun0_C.sl.r_113, kernelRun0_C.sl.r_114, kernelRun0_C.sl.r_115, kernelRun0_C.sl.r_116, kernelRun0_C.sl.r_117, kernelRun0_C.sl.r_118, kernelRun0_C.sl.r_119, kernelRun0_C.sl.r_120, kernelRun0_C.sl.r_121, kernelRun0_C.sl.r_122, kernelRun0_C.sl.r_123, kernelRun0_C.sl.r_124, kernelRun0_C.sl.r_125, kernelRun0_C.sl.r_126, kernelRun0_C.sl.r_127, kernelRun0_C.sl.r_128, kernelRun0_C.sl.r_129, kernelRun0_C.sl.r_130, kernelRun0_C.sl.r_131, kernelRun0_C.sl.r_132, kernelRun0_C.sl.r_133, kernelRun0_C.sl.r_134, kernelRun0_C.sl.r_135, kernelRun0_C.sl.r_136, kernelRun0_C.sl.r_137, kernelRun0_C.sl.r_138, kernelRun0_C.sl.r_139, kernelRun0_C.sl.r_140, kernelRun0_C.sl.r_141, kernelRun0_C.sl.r_142, kernelRun0_C.sl.r_143, kernelRun0_C.sl.r_144, kernelRun0_C.sl.r_145, kernelRun0_C.sl.r_146, kernelRun0_C.sl.r_147, kernelRun0_C.sl.r_148, kernelRun0_C.sl.r_149, kernelRun0_C.sl.r_150, kernelRun0_C.sl.r_151, kernelRun0_C.sl.r_152, kernelRun0_C.sl.r_153, kernelRun0_C.sl.r_154, kernelRun0_C.sl.r_155, kernelRun0_C.sl.r_156, kernelRun0_C.sl.r_157, kernelRun0_C.sl.r_158, kernelRun0_C.sl.r_159, kernelRun0_C.sl.r_160, kernelRun0_C.sl.r_161, kernelRun0_C.sl.r_162, kernelRun0_C.sl.r_163, kernelRun0_C.sl.r_164, kernelRun0_C.sl.r_165, kernelRun0_C.sl.r_166, kernelRun0_C.sl.r_167, kernelRun0_C.sl.r_168, kernelRun0_C.sl.r_169, kernelRun0_C.sl.r_170, kernelRun0_C.sl.r_171, kernelRun0_C.sl.r_172, kernelRun0_C.sl.r_173, kernelRun0_C.sl.r_174, kernelRun0_C.sl.r_175, kernelRun0_C.sl.r_176, kernelRun0_C.sl.r_177, kernelRun0_C.sl.r_178, kernelRun0_C.sl.r_179, kernelRun0_C.sl.r_180, kernelRun0_C.sl.r_181, kernelRun0_C.sl.r_182, kernelRun0_C.sl.r_183, kernelRun0_C.sl.r_184, kernelRun0_C.sl.r_185, kernelRun0_C.sl.r_186, kernelRun0_C.sl.r_187, kernelRun0_C.sl.r_188, kernelRun0_C.sl.r_189, kernelRun0_C.sl.r_190, kernelRun0_C.sl.r_191, kernelRun0_C.sl.r_192, kernelRun0_C.sl.r_193, kernelRun0_C.sl.r_194, kernelRun0_C.sl.r_195, kernelRun0_C.sl.r_196, kernelRun0_C.sl.r_197, kernelRun0_C.sl.r_198, kernelRun0_C.sl.r_199, kernelRun0_C.sl.r_200, kernelRun0_C.sl.r_201, kernelRun0_C.sl.r_202, kernelRun0_C.sl.r_203, kernelRun0_C.sl.r_204, kernelRun0_C.sl.r_205, kernelRun0_C.sl.r_206, kernelRun0_C.sl.r_207, kernelRun0_C.sl.r_208, kernelRun0_C.sl.r_209, kernelRun0_C.sl.r_210, kernelRun0_C.sl.r_211, kernelRun0_C.sl.r_212, kernelRun0_C.sl.r_213, kernelRun0_C.sl.r_214, kernelRun0_C.sl.r_215, kernelRun0_C.sl.r_216, kernelRun0_C.sl.r_217, kernelRun0_C.sl.r_218, kernelRun0_C.sl.r_219, kernelRun0_C.sl.r_220, kernelRun0_C.sl.r_221, kernelRun0_C.sl.r_222, kernelRun0_C.sl.r_223, kernelRun0_C.sl.r_224, kernelRun0_C.sl.r_225, kernelRun0_C.sl.r_226, kernelRun0_C.sl.r_227, kernelRun0_C.sl.r_228, kernelRun0_C.sl.r_229, kernelRun0_C.sl.r_230, kernelRun0_C.sl.r_231, kernelRun0_C.sl.r_232, kernelRun0_C.sl.r_233, kernelRun0_C.sl.r_234, kernelRun0_C.sl.r_235, kernelRun0_C.sl.r_236, kernelRun0_C.sl.r_237, kernelRun0_C.sl.r_238, kernelRun0_C.sl.r_239, kernelRun0_C.sl.r_240, kernelRun0_C.sl.r_241, kernelRun0_C.sl.r_242, kernelRun0_C.sl.r_243, kernelRun0_C.sl.r_244, kernelRun0_C.sl.r_245, kernelRun0_C.sl.r_246, kernelRun0_C.sl.r_247, kernelRun0_C.sl.r_248, kernelRun0_C.sl.r_249, kernelRun0_C.sl.r_250, kernelRun0_C.sl.r_251, kernelRun0_C.sl.r_252, kernelRun0_C.sl.r_253, kernelRun0_C.sl.r_254, kernelRun0_C.sl.r_255, kernelRun0_C.sl.r_256, kernelRun0_C.sl.r_257, kernelRun0_C.sl.r_258, kernelRun0_C.sl.r_259, kernelRun0_C.sl.r_260, kernelRun0_C.sl.r_261, kernelRun0_C.sl.r_262, kernelRun0_C.sl.r_263, kernelRun0_C.sl.r_264, kernelRun0_C.sl.r_265, kernelRun0_C.sl.r_266, kernelRun0_C.sl.r_267, kernelRun0_C.sl.r_268, kernelRun0_C.sl.r_269, kernelRun0_C.sl.r_270, kernelRun0_C.sl.r_271, kernelRun0_C.sl.r_272, kernelRun0_C.sl.r_273, kernelRun0_C.sl.r_274, kernelRun0_C.sl.r_275, kernelRun0_C.sl.r_276, kernelRun0_C.sl.r_277, kernelRun0_C.sl.r_278, kernelRun0_C.sl.r_279, kernelRun0_C.sl.r_280, kernelRun0_C.sl.r_281, kernelRun0_C.sl.r_282, kernelRun0_C.sl.r_283, kernelRun0_C.sl.r_284, kernelRun0_C.sl.r_285, kernelRun0_C.sl.r_286, kernelRun0_C.sl.r_287, kernelRun0_C.sl.r_288, kernelRun0_C.sl.r_289, kernelRun0_C.sl.r_290, kernelRun0_C.sl.r_291, kernelRun0_C.sl.r_292, kernelRun0_C.sl.r_293, kernelRun0_C.sl.r_294, kernelRun0_C.sl.r_295, kernelRun0_C.sl.r_296, kernelRun0_C.sl.r_297, kernelRun0_C.sl.r_298, kernelRun0_C.sl.r_299, kernelRun0_C.sl.r_300, kernelRun0_C.sl.r_301, kernelRun0_C.sl.r_302, kernelRun0_C.sl.r_303, kernelRun0_C.sl.r_304, kernelRun0_C.sl.r_305, kernelRun0_C.sl.r_306, kernelRun0_C.sl.r_307, kernelRun0_C.sl.r_308, kernelRun0_C.sl.r_309, kernelRun0_C.sl.r_310, kernelRun0_C.sl.r_311, kernelRun0_C.sl.r_312, kernelRun0_C.sl.r_313, kernelRun0_C.sl.r_314, kernelRun0_C.sl.r_315, kernelRun0_C.sl.r_316, kernelRun0_C.sl.r_317, kernelRun0_C.sl.r_318, kernelRun0_C.sl.r_319, kernelRun0_C.sl.r_320, kernelRun0_C.sl.r_321, kernelRun0_C.sl.r_322, kernelRun0_C.sl.r_323, kernelRun0_C.sl.r_324, kernelRun0_C.sl.r_325, kernelRun0_C.sl.r_326, kernelRun0_C.sl.r_327, kernelRun0_C.sl.r_328, kernelRun0_C.sl.r_329, kernelRun0_C.sl.r_330, kernelRun0_C.sl.r_331, kernelRun0_C.sl.r_332, kernelRun0_C.sl.r_333, kernelRun0_C.sl.r_334, kernelRun0_C.sl.r_335, kernelRun0_C.sl.r_336, kernelRun0_C.sl.r_337, kernelRun0_C.sl.r_338, kernelRun0_C.sl.r_339, kernelRun0_C.sl.r_340, kernelRun0_C.sl.r_341, kernelRun0_C.sl.r_342, kernelRun0_C.sl.r_343, kernelRun0_C.sl.r_344, kernelRun0_C.sl.r_345, kernelRun0_C.sl.r_346, kernelRun0_C.sl.r_347, kernelRun0_C.sl.r_348, kernelRun0_C.sl.r_349, kernelRun0_C.sl.r_350, kernelRun0_C.sl.r_351, kernelRun0_C.sl.r_352, kernelRun0_C.sl.r_353, kernelRun0_C.sl.r_354, kernelRun0_C.sl.r_355, kernelRun0_C.sl.r_356, kernelRun0_C.sl.r_357, kernelRun0_C.sl.r_358, kernelRun0_C.sl.r_359, kernelRun0_C.sl.r_360, kernelRun0_C.sl.r_361, kernelRun0_C.sl.r_362, kernelRun0_C.sl.r_363, kernelRun0_C.sl.r_364, kernelRun0_C.sl.r_365, kernelRun0_C.sl.r_366, kernelRun0_C.sl.r_367, kernelRun0_C.sl.r_368, kernelRun0_C.sl.r_369, kernelRun0_C.sl.r_370, kernelRun0_C.sl.r_371, kernelRun0_C.sl.r_372, kernelRun0_C.sl.r_373, kernelRun0_C.sl.r_374, kernelRun0_C.sl.r_375, kernelRun0_C.sl.r_376, kernelRun0_C.sl.r_377, kernelRun0_C.sl.r_378, kernelRun0_C.sl.r_379, kernelRun0_C.sl.r_380, kernelRun0_C.sl.r_381, kernelRun0_C.sl.r_382, kernelRun0_C.sl.r_383, kernelRun0_C.sl.r_384, kernelRun0_C.sl.r_385, kernelRun0_C.sl.r_386, kernelRun0_C.sl.r_387, kernelRun0_C.sl.r_388, kernelRun0_C.sl.r_389, kernelRun0_C.sl.r_390, kernelRun0_C.sl.r_391, kernelRun0_C.sl.r_392, kernelRun0_C.sl.r_393, kernelRun0_C.sl.r_394, kernelRun0_C.sl.r_395, kernelRun0_C.sl.r_396, kernelRun0_C.sl.r_397, kernelRun0_C.sl.r_398, kernelRun0_C.sl.r_399, kernelRun0_C.sl.r_400, kernelRun0_C.sl.r_401, kernelRun0_C.sl.v1012, kernelRun0_C.sl.v1014, kernelRun0_C.sl.v1016, kernelRun0_C.sl.v1018, kernelRun0_C.sl.v1019, kernelRun0_C.sl.v1110, kernelRun0_C.sl.v1113, kernelRun0_C.sl.v1142, kernelRun0_C.sl.v1145, kernelRun0_C.sl.v1174, kernelRun0_C.sl.v1177, kernelRun0_C.sl.v1206, kernelRun0_C.sl.v1209, kernelRun0_C.sl.v1238, kernelRun0_C.sl.v1241, kernelRun0_C.sl.v1270, kernelRun0_C.sl.v1273, kernelRun0_C.sl.v1302, kernelRun0_C.sl.v1305, kernelRun0_C.sl.v1334, kernelRun0_C.sl.v1337, kernelRun0_C.sl.v1366, kernelRun0_C.sl.v1369, kernelRun0_C.sl.v1398, kernelRun0_C.sl.v1401, kernelRun0_C.sl.v1430, kernelRun0_C.sl.v1433, kernelRun0_C.sl.v1462, kernelRun0_C.sl.v1465, kernelRun0_C.sl.v1536, kernelRun0_C.sl.v1537, kernelRun0_C.sl.v1550, kernelRun0_C.sl.v1552, kernelRun0_C.sl.v1554, kernelRun0_C.sl.v1556, kernelRun0_C.sl.v1557, kernelRun0_C.sl.v1638, kernelRun0_C.sl.v1645, kernelRun0_C.sl.v1649, kernelRun0_C.sl.v1653, kernelRun0_C.sl.v1660, kernelRun0_C.sl.v1664, kernelRun0_C.sl.v1667, kernelRun0_C.sl.HS10_1, kernelRun0_C.sl.HS10_2, kernelRun0_C.sl.HS10_3, kernelRun0_C.sl.HS11_1, kernelRun0_C.sl.HS11_2, kernelRun0_C.sl.HS11_3,
    rd_unread, View.readCov_cons_toLoadRect, readCov_whole, ld_whole2]
  all_goals rfl
-- ==== Proof.TieKeep.lean ====
module
public import proofs.«01_k».proof.Proof.TieLib
set_option maxRecDepth 16384
set_option maxHeartbeats 4000000
@[expose] public section
noncomputable section
namespace Cert.KernelIdeal.Gen
open Idealize.ShloMosaic Idealize.ShloMosaic.TcCoe
variable {F : FTy → Type} [FloatOps F] [Named F]

/-! What the last grid step leaves of the codes and the scales. -/

variable (c : Dev nD) (i : grid0.Coords) (arg1 : Memref sig .tc .vmem S2x128x1536 .bf16) (harg1 : arg1.IsWhole) (arg2 : Memref sig .tc .vmem S256x1536 .bf16) (harg2 : arg2.IsWhole) (arg3 : Memref sig .tc .vmem S1536x1536 .fp8e4m3) (harg3 : arg3.IsWhole) (arg4 : Memref sig .tc .vmem S1x1536 .f32) (harg4 : arg4.IsWhole) (arg5 : Memref sig .tc .vmem S1536x768 .i8) (harg5 : arg5.IsWhole) (arg6 : Memref sig .tc .vmem S12x1536 .f32) (harg6 : arg6.IsWhole) (arg7 : Memref sig .tc .vmem S12x1536 .i8) (harg7 : arg7.IsWhole) (arg8 : Memref sig .tc .vmem S2x128 .i32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x128 .f32) (harg11 : arg11.IsWhole) (arg12 : Memref sig .tc .vmem S2x128x1536 .fp8e4m3) (harg12 : arg12.IsWhole) (arg13 : Memref sig .tc .vmem S2x128 .f32) (harg13 : arg13.IsWhole) (arg14 : Memref sig .tc .vmem S256x1536 .fp8e4m3) (harg14 : arg14.IsWhole) (arg15 : Memref sig .tc .vmem S256x128 .f32) (harg15 : arg15.IsWhole) (arg16 : Memref sig .tc .vmem S12x1536 .bf16) (harg16 : arg16.IsWhole) (arg17 : Memref sig .tc .vmem S12x1536 .bf16) (harg17 : arg17.IsWhole) (arg18 : Memref sig .tc .vmem S256x128 .i32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole) (arg22 : Memref sig .tc .vmem S256x128 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (hc0 : ¬cond0_0 i) (hc1 : cond0_1 i)
    (x0 : Vec F S2x128x1536 .bf16) (x1 : Vec F S256x1536 .bf16) (x2 : Vec F S1536x1536 .fp8e4m3) (x3 : Vec F S1x1536 .f32) (x4 : Vec F S1536x768 .i8) (x5 : Vec F S12x1536 .f32) (x6 : Vec F S12x1536 .i8) (x7 : Vec F S2x128 .i32) (xo11 : Vec F S2x128x1536 .fp8e4m3) (xo12 : Vec F S2x128 .f32) (xs0 : Vec F S256x1536 .fp8e4m3) (xs1 : Vec F S256x128 .f32) (xs4 : Vec F S256x128 .i32) (xs5 : Vec F S256x128 .f32) (xs6 : Vec F S256x128 .f32) (xs7 : Vec F S256x128 .f32) (xs8 : Vec F S256x128 .f32) (xs9 : Vec F S256x128 .f32) (xs10 : Vec F S256x128 .f32) (xs11 : Vec F S256x128 .f32)

theorem zero3 : (![0, 0, 0] : Fin 3 → ℕ) = fun _ => 0 := by funext a; fin_cases a <;> rfl

/-- The last step leaves the codes and the scales as they were. -/
theorem tieC_keep : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 xo11 xo12 xs0 xs1 xs4 xs5 xs6 xs7 xs8 xs9 xs10 xs11 = xo11 ∧
    out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 xo11 xo12 xs0 xs1 xs4 xs5 xs6 xs7 xs8 xs9 xs10 xs11 = xo12 := by
  unfold out0_C_11 out0_C_12 kernelRun0_C
  dsimp only
  refine ⟨?_, ?_⟩
  · rw [View.read_writes_junk_eq_canon, View.canon_unit_zero (S := S2x128x1536) zero3, rd_unread,
      View.ld_unit_zero (S := S2x128x1536) zero3]
    exact shapeCast_self _ _
  · rw [View.read_writes_junk_eq_canon, View.canon_unit_zero (S := S2x128) zero2, rd_unread,
      View.ld_unit_zero (S := S2x128) zero2]
    exact shapeCast_self _ _
-- ==== Proof.KPointC.lean ====
module
public import proofs.«01_k».proof.Proof.KAcc
public import proofs.«01_k».proof.Proof.TieC
public import proofs.«01_k».proof.Proof.TieKeep
set_option maxRecDepth 16384
@[expose] public section
noncomputable section
namespace Cert.Proof.K
open Idealize Idealize.ShloMosaic Idealize.ShloMosaic.TcCoe
open Cert.KernelIdeal Cert.KernelIdeal.Gen Cert.KernelIdeal.Value

/-! # The last grid step -/

variable (m : (ℓ : Loc nD τ sig) → Buf (Elt Ideal) ℓ) (c : Dev nD) (t : Fin cfg0.N) (acc : Acc)

theorem last_lp (h0 : ¬ t.val % 99 = 0) (h1 : t.val % 99 = 98) : lpOf (stAt0 m c t.val t.isLt acc) = outLp (stepAt m c t (xcOf acc) (coefOf acc) (tgtOf acc) (stOf acc)) := by
  rw [stAt0_C m c t acc h0 h1, lpOf_mk]
  exact (tieC_out _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).1
theorem last_lq (h0 : ¬ t.val % 99 = 0) (h1 : t.val % 99 = 98) : lqOf (stAt0 m c t.val t.isLt acc) = outLq (stepAt m c t (xcOf acc) (coefOf acc) (tgtOf acc) (stOf acc)) := by
  rw [stAt0_C m c t acc h0 h1, lqOf_mk]
  exact (tieC_out _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).2.1
theorem last_kl (h0 : ¬ t.val % 99 = 0) (h1 : t.val % 99 = 98) : klOf (stAt0 m c t.val t.isLt acc) = outKl (stepAt m c t (xcOf acc) (coefOf acc) (tgtOf acc) (stOf acc)) := by
  rw [stAt0_C m c t acc h0 h1, klOf_mk]
  exact (tieC_out _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).2.2
theorem last_codes (h0 : ¬ t.val % 99 = 0) (h1 : t.val % 99 = 98) : codesOf (stAt0 m c t.val t.isLt acc) = codesOf acc := by
  rw [stAt0_C m c t acc h0 h1, codesOf_mk]
  exact (tieC_keep _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).1
theorem last_scales (h0 : ¬ t.val % 99 = 0) (h1 : t.val % 99 = 98) : scalesOf (stAt0 m c t.val t.isLt acc) = scalesOf acc := by
  rw [stAt0_C m c t acc h0 h1, scalesOf_mk]
  exact (tieC_keep _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).2

end Cert.Proof.K
-- ==== Proof.RefLogits.lean ====
module

public import proofs.«01_k».proof.Proof.Spec
public import proofs.«01_k».proof.Proof.Gen.ReferenceIdeal.Value

/-! # The reference's stored values, read at an index -/

@[expose] public section

noncomputable section

namespace Cert.Proof.Ref
open Idealize Idealize.ShloMosaic Idealize.ShloMosaic.TcCoe Idealize.SL.Sem
open Cert.ReferenceIdeal Cert.ReferenceIdeal.Gen

set_option maxRecDepth 16384

theorem fold_max_sup {n : ℕ} (f : Fin n → EReal) : Finset.univ.fold max (Ideal.ofBits .f32 0xFF800000#32) f = Finset.univ.sup f := by
  have : Ideal.ofBits .f32 0xFF800000#32 = ⊥ := by simp [Ideal.ofBits, Ideal.ieee]
  rw [this]; rfl

theorem κ_log2e : (Named.named κ "log2e" 0x3FB8AA3B#32 : Ideal .f32) = log2e := rfl

/-- The scales are the specification's. -/
theorem pay10_at (x : Vec Ideal S2x128x1536 .bf16) (b : Fin 2) (s : Fin 128) : k0_pay10 x (ix2 b s) = xscale x b s := by
  pointwise [k0_pay10, k0_pay8, k0_pay7]
  simp only [fold_max_sup, κ_log2e]
  rfl

/-- The codes are the specification's. -/
theorem pay9_at (x : Vec Ideal S2x128x1536 .bf16) (b : Fin 2) (s : Fin 128) (k : Fin 1536) :
    k0_pay9 x (ix3 b s k) = xcode x b s k := by
  pointwise [k0_pay9, k0_pay8, k0_pay7]
  simp only [fold_max_sup, κ_log2e, zero_sub]
  rfl

/-- The policy's logits are the specification's. -/
theorem pay11_at (x : Vec Ideal S2x128x1536 .bf16) (wp : Vec Ideal S152064x1536 .fp8e4m3) (ws : Vec Ideal S152064 .f32)
    (r : Fin 256) (v : Fin 152064) : k0_pay11 x wp ws (ix2 r v) = zpol x wp ws r v := by
  pointwise [k0_pay11]
  simp only [pay9_at, pay10_at]
  rfl

/-- The reference model's logits are the specification's. -/
theorem pay13_at (z : Vec Ideal S152064x12 .i8) (s : Vec Ideal S152064x12 .f32) (wr : Vec Ideal S152064x768 .i8)
    (xe xo : Vec Ideal S256x768 .bf16) (r : Fin 256) (v : Fin 152064) :
    k0_pay13 (k0_pay12 z) s wr xe xo (ix2 r v) = zref xe xo wr s z r v := by
  pointwise [k0_pay13, k0_pay12]
  rfl

end Cert.Proof.Ref
-- ==== Proof.KQuant.lean ====
module
public import proofs.«01_k».proof.Proof.KRead
public import proofs.«01_k».proof.Proof.RefLogits
set_option maxRecDepth 16384
@[expose] public section
noncomputable section
namespace Cert.Proof.K
open Idealize Idealize.ShloMosaic Idealize.ShloMosaic.TcCoe
open Cert.KernelIdeal Cert.KernelIdeal.Gen

/-! # The kernel's quantiser is the reference's

On rows whose largest magnitude over 448 is zero or a normal number, the searched exponent is the logarithm's floor plus one. -/

/-- Two blocks of rows, one above the other, read at a row. -/
theorem canon_rows {e : EltTy} {N h M : ℕ} (inb1) (inb0) (w1 w0 : (⟨2, ![h, M]⟩ : Shape).Idx → Elt Ideal e) (b : Fin 2) (i : Fin h)
    (j : Fin M) (hr : b.val * h + i.val < N) :
    View.canon (Val := Elt Ideal) (s := ⟨2, ![N, M]⟩) (e := e) [⟨Rect.unit ![h, 0] ![h, M] inb1, w1⟩, ⟨Rect.unit ![0, 0] ![h, M] inb0, w0⟩]
      (ix2 ⟨b.val * h + i.val, hr⟩ j) = if b = 0 then w0 (ix2 i j) else w1 (ix2 i j) := by
  obtain rfl | rfl : b = 0 ∨ b = 1 := by fin_cases b <;> simp
  · rw [if_pos rfl, View.canon_cons_of_not_mem]
    · have : ix2 (⟨(0 : Fin 2).val * h + i.val, hr⟩ : Fin N) j = (Rect.unit (s := ⟨2, ![N, M]⟩) ![0, 0] ![h, M] inb0).emb (ix2 i j) := by
        funext a; fin_cases a <;> refine Fin.ext ?_
        · show 0 * h + i.val = 0 + 1 * i.val; omega
        · show j.val = 0 + 1 * j.val; omega
      rw [this]; exact View.canon_cons_emb (Val := Elt Ideal) (e := e) (Rect.unit (s := ⟨2, ![N, M]⟩) ![0, 0] ![h, M] inb0) w0 _ _
    · intro hm
      have := ((Rect.mem_set_unit (inb := inb1)).mp hm 0).1
      have h2 : h ≤ 0 * h + i.val := this
      have := i.isLt; omega
  · rw [if_neg (by decide)]
    have : ix2 (⟨(1 : Fin 2).val * h + i.val, hr⟩ : Fin N) j = (Rect.unit (s := ⟨2, ![N, M]⟩) ![h, 0] ![h, M] inb1).emb (ix2 i j) := by
      funext a; fin_cases a <;> refine Fin.ext ?_
      · show 1 * h + i.val = h + 1 * i.val; omega
      · show j.val = 0 + 1 * j.val; omega
    rw [this]; exact View.canon_cons_emb (Val := Elt Ideal) (e := e) (Rect.unit (s := ⟨2, ![N, M]⟩) ![h, 0] ![h, M] inb1) w1 _ _

/-- Two batches' blocks, read at a batch. -/
theorem canon_bats {e : EltTy} {N M : ℕ} (inb1) (inb0) (w1 w0 : (⟨3, ![1, N, M]⟩ : Shape).Idx → Elt Ideal e) (b : Fin 2) (i : Fin N) (j : Fin M) :
    View.canon (Val := Elt Ideal) (s := ⟨3, ![2, N, M]⟩) (e := e) [⟨Rect.unit ![1, 0, 0] ![1, N, M] inb1, w1⟩, ⟨Rect.unit ![0, 0, 0] ![1, N, M] inb0, w0⟩]
      (ix3 b i j) = if b = 0 then w0 (ix3 0 i j) else w1 (ix3 0 i j) := by
  obtain rfl | rfl : b = 0 ∨ b = 1 := by fin_cases b <;> simp
  · rw [if_pos rfl, View.canon_cons_of_not_mem]
    · have : ix3 (0 : Fin 2) i j = (Rect.unit (s := ⟨3, ![2, N, M]⟩) ![0, 0, 0] ![1, N, M] inb0).emb (ix3 0 i j) := by
        funext a; fin_cases a <;> refine Fin.ext ?_
        · rfl
        · show i.val = 0 + 1 * i.val; omega
        · show j.val = 0 + 1 * j.val; omega
      rw [this]; exact View.canon_cons_emb (Val := Elt Ideal) (e := e) (Rect.unit (s := ⟨3, ![2, N, M]⟩) ![0, 0, 0] ![1, N, M] inb0) w0 _ _
    · intro hm
      have := ((Rect.mem_set_unit (inb := inb1)).mp hm 0).1
      have h2 : 1 ≤ 0 := this
      omega
  · rw [if_neg (by decide)]
    have : ix3 (1 : Fin 2) i j = (Rect.unit (s := ⟨3, ![2, N, M]⟩) ![1, 0, 0] ![1, N, M] inb1).emb (ix3 0 i j) := by
      funext a; fin_cases a <;> refine Fin.ext ?_
      · rfl
      · show i.val = 0 + 1 * i.val; omega
      · show j.val = 0 + 1 * j.val; omega
    rw [this]; exact View.canon_cons_emb (Val := Elt Ideal) (e := e) (Rect.unit (s := ⟨3, ![2, N, M]⟩) ![1, 0, 0] ![1, N, M] inb1) w1 _ _

/-- One batch of the states. -/
theorem bat_at (x : Vec Ideal S2x128x1536 .bf16) (b : Fin 2) (s : Fin 128) (k : Fin 1536) : bat b x (ix3 0 s k) = x (ix3 b s k) := by
  refine congrArg x ?_
  funext a; fin_cases a <;> refine Fin.ext ?_
  · show b.val + 1 * 0 = b.val; omega
  · show 0 + 1 * s.val = s.val; omega
  · show 0 + 1 * k.val = k.val; omega

/-- The ratio of a row's largest magnitude to 448. -/
def ratio (x : Vec Ideal S1x128x1536 .bf16) (s : Fin 128) : EReal :=
  (Finset.univ.sup fun k : Fin 1536 => max (x (ix3 0 s k)) (-(x (ix3 0 s k)))) * c448

theorem qv_at (x : Vec Ideal S1x128x1536 .bf16) (s l : Fin 128) : qv x (ix2 s l) = ratio x s := by
  pointwise [qv, qf]
  simp only [Ref.fold_max_sup]
  rfl

theorem qcode_at (x : Vec Ideal S1x128x1536 .bf16) (s : Fin 128) (k : Fin 1536) :
    qcode x (ix2 s k) = clip448 (x (ix3 0 s k)) (kinv (ratio x s)) := by
  have e : ∀ l : Fin 128, qinv (qv x) (ix2 s l) = kinv (ratio x s) := fun l => by rw [← qv_at x s l]; rfl
  pointwise [qcode, qf]
  rw [e]
  rfl

theorem qscale_at (x : Vec Ideal S1x128x1536 .bf16) (s l : Fin 128) : qscale (qv x) (ix2 s l) = kscale (ratio x s) := by
  rw [← qv_at x s l]; rfl

theorem ratio_bat (x : Vec Ideal S2x128x1536 .bf16) (b : Fin 2) (s : Fin 128) : ratio (bat b x) s = amax x b s * c448 := by
  rw [ratio, amax]; simp only [bat_at]

/-- What the precondition says of a row. -/
def Normal (x : Vec Ideal S2x128x1536 .bf16) (b : Fin 2) (s : Fin 128) : Prop :=
  amax x b s = 0 ∨ ((((2 : ℝ) ^ (-126 : ℤ) : ℝ) : EReal) ≤ amax x b s * c448 ∧ amax x b s * c448 < (((2 : ℝ) ^ (120 : ℤ) : ℝ) : EReal))

theorem row_scale {x : Vec Ideal S2x128x1536 .bf16} {b : Fin 2} {s : Fin 128} (h : Normal x b s) :
    kscale (ratio (bat b x) s) = xscale x b s ∧ kinv (ratio (bat b x) s) = Ideal.exp2 (-xexp x b s) := by
  rw [ratio_bat, xscale, xexp]
  by_cases h0 : amax x b s = 0
  · rw [h0, zero_mul, rexp, if_pos rfl]; exact scale_zero
  · obtain h | ⟨h1, h2⟩ := h
    · exact absurd h h0
    · exact scale_normal h0 h1 h2

theorem if_bat {α : Type} (f : Fin 2 → α) (b : Fin 2) : (if b = 0 then f 0 else f 1) = f b := by
  fin_cases b <;> rfl

/-- The codes that the steps read. -/
theorem xcA_at {x : Vec Ideal S2x128x1536 .bf16} {b : Fin 2} {s : Fin 128} (h : Normal x b s) (k : Fin 1536) :
    xcA x (ix2 (row b s) k) = xcode x b s k := by
  refine (canon_rows (e := .fp8e4m3) (N := 256) (h := 128) (M := 1536) _ _ _ _ b s k (by omega)).trans ?_
  rw [shapeCast_self, shapeCast_self]
  refine (if_bat (fun b => qcode (bat b x) (ix2 s k)) b).trans ?_
  show qcode (bat b x) (ix2 s k) = _
  rw [qcode_at, bat_at, (row_scale h).2]; rfl

theorem coefA_at {x : Vec Ideal S2x128x1536 .bf16} {b : Fin 2} {s : Fin 128} (h : Normal x b s) (l : Fin 128) :
    coefA x (ix2 (row b s) l) = xscale x b s * log2e := by
  refine (canon_rows (e := .f32) (N := 256) (h := 128) (M := 128) _ _ _ _ b s l (by omega)).trans ?_
  refine (if_bat (fun b => qcoef (bat b x) (ix2 s l)) b).trans ?_
  show qcoef (bat b x) (ix2 s l) = _
  unfold qcoef
  rw [shapeCast_self]
  show qscale (qv (bat b x)) (ix2 s l) * log2e = _
  rw [qscale_at, (row_scale h).1]

theorem tgtA_at (t : Vec Ideal S2x128 .i32) (b : Fin 2) (s l : Fin 128) : tgtA t (ix2 (row b s) l) = t (ix2 b s) := by
  refine (canon_rows (e := .i32) (N := 256) (h := 128) (M := 128) _ _ _ _ b s l (by omega)).trans ?_
  have e0 : ∀ w : Vec Ideal S1x128 .i32, k0_pay27 (F := Ideal) w (ix2 s l) = w (ix2 0 s) := fun w => by pointwise [k0_pay27]
  have e1 : ∀ w : Vec Ideal S1x128 .i32, k0_pay28 (F := Ideal) w (ix2 s l) = w (ix2 0 s) := fun w => by pointwise [k0_pay28]
  rw [e0, e1]
  have l0 := ld_ix2 (α := Elt Ideal) (e := .i32) (N := 2) (M := 128) (n := 1) (m := 128) (a := 0) (b := 0) t inb_S2x128_S1x128_0_0 0 s (by decide) (by omega)
  have l1 := ld_ix2 (α := Elt Ideal) (e := .i32) (N := 2) (M := 128) (n := 1) (m := 128) (a := 1) (b := 0) t inb_S2x128_S1x128_1_0 0 s (by decide) (by omega)
  have es : (⟨0 + s.val, by omega⟩ : Fin 128) = s := Fin.ext (Nat.zero_add _)
  rw [es] at l0 l1
  refine Eq.trans ?_ (if_bat (fun b => t (ix2 b s)) b)
  exact congrArg₂ (fun p q => if b = 0 then p else q) l0 l1

/-- The codes' array. -/
theorem codesA_at {x : Vec Ideal S2x128x1536 .bf16} {b : Fin 2} {s : Fin 128} (h : Normal x b s) (k : Fin 1536) :
    codesA x (ix3 b s k) = xcode x b s k := by
  refine (canon_bats (e := .fp8e4m3) (N := 128) (M := 1536) _ _ _ _ b s k).trans ?_
  have e : ∀ w : FVec Ideal S128x1536 .fp8e4m3, shapeCast S1x128x1536 w shapeCasts_S128x1536_S1x128x1536 (ix3 0 s k) = w (ix2 s k) := fun w => by pointwise
  rw [e, e]
  refine (if_bat (fun b => qcode (bat b x) (ix2 s k)) b).trans ?_
  show qcode (bat b x) (ix2 s k) = _
  rw [qcode_at, bat_at, (row_scale h).2]; rfl

/-- The scales' array. -/
theorem scalesA_at {x : Vec Ideal S2x128x1536 .bf16} {b : Fin 2} {s : Fin 128} (h : Normal x b s) :
    scalesA x (ix2 b s) = xscale x b s := by
  have hb : (⟨b.val * 1 + (0 : Fin 1).val, by have := b.isLt; show b.val * 1 + 0 < 2; omega⟩ : Fin 2) = b := Fin.ext (by show b.val * 1 + 0 = b.val; omega)
  have c := canon_rows (e := .f32) (N := 2) (h := 1) (M := 128) inb_S2x128_S1x128_1_0 inb_S2x128_S1x128_0_0
      (extractStridedSlice S1x128 ![0, 0] (transpose S128x128 [1, 0] (qscale (qv (bat 1 x))) transposes_S128x128_p1_0_S128x128 : FVec Ideal S128x128 .f32) slices_S128x128_o0_0_S1x128)
      (extractStridedSlice S1x128 ![0, 0] (transpose S128x128 [1, 0] (qscale (qv (bat 0 x))) transposes_S128x128_p1_0_S128x128 : FVec Ideal S128x128 .f32) slices_S128x128_o0_0_S1x128)
      b 0 s (by have := b.isLt; show b.val * 1 + 0 < 2; omega)
  rw [hb] at c
  refine c.trans ?_
  have e : ∀ w : FVec Ideal S128x128 .f32, (extractStridedSlice S1x128 ![0, 0] (transpose S128x128 [1, 0] w transposes_S128x128_p1_0_S128x128 : FVec Ideal S128x128 .f32) slices_S128x128_o0_0_S1x128 : FVec Ideal S1x128 .f32) (ix2 0 s) = w (ix2 s 0) := fun w => by pointwise
  rw [e, e]
  refine (if_bat (fun b => qscale (qv (bat b x)) (ix2 s 0)) b).trans ?_
  show qscale (qv (bat b x)) (ix2 s 0) = _
  rw [qscale_at, (row_scale h).1]

/-- A number per row, as the result holds it. -/
theorem outC_at (x : Col Ideal) (b : Fin 2) (s : Fin 128) : outC x (ix2 b s) = x (ix2 (row b s) 0) := by
  have hb : (⟨b.val * 1 + (0 : Fin 1).val, by have := b.isLt; show b.val * 1 + 0 < 2; omega⟩ : Fin 2) = b := Fin.ext (by show b.val * 1 + 0 = b.val; omega)
  have c := canon_rows (e := .f32) (N := 2) (h := 1) (M := 128) inb_S2x128_S1x128_1_0 inb_S2x128_S1x128_0_0
      (flip1 (extractStridedSlice S128x1 ![128, 0] x slices_S256x1_o128_0_S128x1)) (flip1 (extractStridedSlice S128x1 ![0, 0] x slices_S256x1_o0_0_S128x1))
      b 0 s (by have := b.isLt; show b.val * 1 + 0 < 2; omega)
  rw [hb] at c
  refine c.trans ?_
  have e : ∀ w : FVec Ideal S128x1 .f32, flip1 w (ix2 0 s) = w (ix2 s 0) := fun w => by pointwise [flip1]
  rw [e, e]
  have e0 : (extractStridedSlice S128x1 ![0, 0] x slices_S256x1_o0_0_S128x1 : FVec Ideal S128x1 .f32) (ix2 s 0) = x (ix2 (row 0 s) 0) := by
    pointwise; exact congrArg (fun i => x (ix2 i 0)) (Fin.ext (by show s.val = 0 * 128 + s.val; omega))
  have e1 : (extractStridedSlice S128x1 ![128, 0] x slices_S256x1_o128_0_S128x1 : FVec Ideal S128x1 .f32) (ix2 s 0) = x (ix2 (row 1 s) 0) := by
    pointwise; exact congrArg (fun i => x (ix2 i 0)) (Fin.ext (by show 128 + s.val = 1 * 128 + s.val; omega))
  rw [e0, e1]
  exact if_bat (fun b => x (ix2 (row b s) 0)) b

end Cert.Proof.K
-- ==== Proof.KEnd.lean ====
module
public import proofs.«01_k».proof.Proof.KStep
public import proofs.«01_k».proof.Proof.RefLogits
set_option maxRecDepth 16384
@[expose] public section
noncomputable section
namespace Cert.Proof.K
open Idealize Idealize.ShloMosaic Idealize.ShloMosaic.TcCoe
open Cert.KernelIdeal Cert.KernelIdeal.Gen

/-! # The lanes put together

After the last step the 128 lanes of a row hold all its logits; the last step's combination gives the reference's
log-probabilities and divergence. -/

/-- A sum over the lanes of sums over the steps is a sum over the words. -/
theorem sum_lanes (G : Fin 128 → ℕ → EReal) (f : Fin 152064 → EReal)
    (h : ∀ (l : Fin 128) (n : ℕ) (hn : 128 * n + l.val < 152064), G l n = f ⟨128 * n + l.val, hn⟩) :
    ∑ l, ∑ n ∈ Finset.range 1188, G l n = ∑ v, f v := by
  rw [← (finProdFinEquiv (m := 1188) (n := 128)).sum_comp f, Fintype.sum_prod_type, Finset.sum_comm, Finset.sum_range]
  refine Finset.sum_congr rfl fun n _ => Finset.sum_congr rfl fun l _ => ?_
  rw [h l n.val (by omega)]
  exact congrArg f (Fin.ext (by show 128 * n.val + l.val = l.val + 128 * n.val; omega))

theorem lane_eq (z : Fin 152064 → EReal) (l : Fin 128) (n : ℕ) (h : 128 * n + l.val < 152064) :
    lane z l n = log2e * z ⟨128 * n + l.val, h⟩ := dif_pos h

/-- The largest logit over all lanes. -/
theorem sup_lanes (z : Fin 152064 → EReal) : (Finset.univ.sup fun l : Fin 128 => wmax (lane z l) 1188) = log2e * rmax z := by
  apply le_antisymm
  · refine Finset.sup_le fun l _ => Finset.sup_le fun n hn => ?_
    have hn' := Finset.mem_range.mp hn
    rw [lane_eq z l n (by omega)]
    exact log2e_mono (Finset.le_sup (f := z) (Finset.mem_univ _))
  · rw [rmax, ← log2e_sup]
    refine Finset.sup_le fun v _ => ?_
    have hv := v.isLt
    have hw : 128 * (v.val / 128) + v.val % 128 < 152064 := by omega
    have e : log2e * z v = lane z ⟨v.val % 128, by omega⟩ (v.val / 128) := by
      rw [lane_eq z ⟨v.val % 128, by omega⟩ (v.val / 128) hw]
      exact congrArg (fun w => log2e * z w) (Fin.ext (by show v.val = 128 * (v.val / 128) + v.val % 128; omega))
    rw [e]
    exact (le_wmax _ (by omega)).trans (Finset.le_sup (f := fun l : Fin 128 => wmax (lane z l) 1188) (Finset.mem_univ _))

theorem wt2_log2e (x y : EReal) : wt2 (log2e * x) (log2e * y) = Ideal.exp (x - y) := by
  rw [wt2, log2e_mul_sub, exp2_log2e]

/-- The lanes' weighted sums, each moved to the row's largest logit, add up to the row's. -/
theorem wsum_lanes (z : Fin 152064 → EReal) (g : Fin 128 → ℕ → EReal) (f : Fin 152064 → EReal)
    (h : ∀ (l : Fin 128) (n : ℕ) (hn : 128 * n + l.val < 152064), g l n = f ⟨128 * n + l.val, hn⟩) :
    ∑ l : Fin 128, wsum (lane z l) (g l) 1188 (wmax (lane z l) 1188) * wt2 (wmax (lane z l) 1188) (log2e * rmax z)
      = ∑ v, Ideal.exp (z v - rmax z) * f v := by
  have e : ∀ l : Fin 128, wsum (lane z l) (g l) 1188 (wmax (lane z l) 1188) * wt2 (wmax (lane z l) 1188) (log2e * rmax z)
      = ∑ n ∈ Finset.range 1188, wt2 (lane z l n) (log2e * rmax z) * g l n := fun l => by
    rw [wsum_rescale _ _ _ (fun n hn => le_wmax _ hn)]
    · rfl
    · rw [← sup_lanes]
      exact Finset.le_sup (f := fun l : Fin 128 => wmax (lane z l) 1188) (Finset.mem_univ _)
  simp only [e]
  refine sum_lanes _ _ fun l n hn => ?_
  rw [lane_eq z l n hn, wt2_log2e, h l n hn]

/-- The lanes' logits of the target add up to the target's. -/
theorem whit_lanes (z : Fin 152064 → EReal) (t : BitVec 32) :
    ∑ l : Fin 128, whit (lane z l) (laneHit t l) 1188 = log2e * rhit z t := by
  rw [rhit, real_mul_sum _ _ log2e_real]
  refine sum_lanes (fun l n => if laneHit t l n then lane z l n else 0) _ fun l n hn => ?_
  have : laneHit t l n ↔ t = BitVec.ofNat 32 (128 * n + l.val) := and_iff_right hn
  show (if laneHit t l n then lane z l n else 0) = log2e * if t = BitVec.ofNat 32 (128 * n + l.val) then _ else 0
  by_cases ht : t = BitVec.ofNat 32 (128 * n + l.val)
  · rw [if_pos (this.mpr ht), if_pos ht, lane_eq z l n hn]
  · rw [if_neg (fun h => ht (this.mp h)), if_neg ht, mul_zero]

theorem rowMax_at (m : Lanes Ideal) (r : Fin 256) : rowMax m (ix2 r 0) = Finset.univ.sup fun l : Fin 128 => m (ix2 r l) := by
  pointwise [rowMax]
  exact Ref.fold_max_sup _

theorem rowSum_at (m : Lanes Ideal) (r : Fin 256) : rowSum m (ix2 r 0) = ∑ l : Fin 128, m (ix2 r l) := by
  pointwise [rowSum]

theorem laneW_at (m : Lanes Ideal) (r : Fin 256) (l : Fin 128) : laneW m (ix2 r l) = wt2 (m (ix2 r l)) (rowMax m (ix2 r 0)) := by
  pointwise [laneW]
  rfl

theorem inNat_at (x : Col Ideal) (r : Fin 256) : inNat x (ix2 r 0) = ln2 * x (ix2 r 0) := rfl

section
variable {m s k t : Lanes Ideal} {z : Fin 152064 → EReal} {r : Fin 256} {tgt : BitVec 32}

theorem rowMax_eq (hm : ∀ l, m (ix2 r l) = wmax (lane z l) 1188) : rowMax m (ix2 r 0) = log2e * rmax z := by
  rw [rowMax_at, ← sup_lanes]; exact congrArg _ (funext hm)

/-- The row's weighted sum. -/
theorem rowSum_eq (g : Fin 128 → ℕ → EReal) (f : Fin 152064 → EReal)
    (h : ∀ (l : Fin 128) (n : ℕ) (hn : 128 * n + l.val < 152064), g l n = f ⟨128 * n + l.val, hn⟩)
    (hm : ∀ l, m (ix2 r l) = wmax (lane z l) 1188) (hs : ∀ l, s (ix2 r l) = wsum (lane z l) (g l) 1188 (wmax (lane z l) 1188)) :
    rowSum (mulf s (laneW m)) (ix2 r 0) = ∑ v, Ideal.exp (z v - rmax z) * f v := by
  rw [rowSum_at, ← wsum_lanes z g f h]
  refine Finset.sum_congr rfl fun l _ => ?_
  show s (ix2 r l) * laneW m (ix2 r l) = _
  rw [laneW_at, rowMax_eq hm, hm, hs]

theorem rowSum_one (hm : ∀ l, m (ix2 r l) = wmax (lane z l) 1188)
    (hs : ∀ l, s (ix2 r l) = wsum (lane z l) (fun _ => 1) 1188 (wmax (lane z l) 1188)) :
    rowSum (mulf s (laneW m)) (ix2 r 0) = rsum z := by
  rw [rowSum_eq (fun _ _ => 1) (fun _ => 1) (fun _ _ _ => rfl) hm hs]
  exact Finset.sum_congr rfl fun v _ => mul_one _

theorem lseC_eq (hm : ∀ l, m (ix2 r l) = wmax (lane z l) 1188)
    (hs : ∀ l, s (ix2 r l) = wsum (lane z l) (fun _ => 1) 1188 (wmax (lane z l) 1188)) : lseC m s (ix2 r 0) = rlse z := by
  show inNat (rowMax m) (ix2 r 0) + Ideal.log (rowSum (mulf s (laneW m)) (ix2 r 0)) = _
  rw [inNat_at, rowMax_eq hm, ln2_mul_log2e, rowSum_one hm hs]; rfl

theorem lpC_eq (hm : ∀ l, m (ix2 r l) = wmax (lane z l) 1188)
    (hs : ∀ l, s (ix2 r l) = wsum (lane z l) (fun _ => 1) 1188 (wmax (lane z l) 1188))
    (ht : ∀ l, t (ix2 r l) = whit (lane z l) (laneHit tgt l) 1188) : lpC t m s (ix2 r 0) = rlogp z tgt := by
  show inNat (rowSum t) (ix2 r 0) - lseC m s (ix2 r 0) = _
  rw [inNat_at, rowSum_at, lseC_eq hm hs]
  simp only [ht]
  rw [whit_lanes, ln2_mul_log2e]; rfl
end

/-- The divergence. -/
theorem klC_eq {p q : Fin 152064 → EReal} {st : St Ideal} {r : Fin 256} {t : BitVec 32}
    (I : ∀ l, Inv (lane p l) (lane q l) (laneHit t l) 1188 st r l) : klC st (ix2 r 0) = rkl p q := by
  have hk : rowSum (mulf st.ka (laneW st.mp)) (ix2 r 0) = log2e * ∑ v, Ideal.exp (p v - rmax p) * (p v - q v) := by
    rw [rowSum_eq (fun l n => lane p l n - lane q l n) (fun v => log2e * (p v - q v))
      (fun l n hn => by rw [lane_eq p l n hn, lane_eq q l n hn, log2e_mul_sub]) (fun l => (I l).mp) (fun l => (I l).ka),
      real_mul_sum _ _ log2e_real]
    exact Finset.sum_congr rfl fun v _ => mul_left_comm _ _ _
  show Ideal.div (inNat (rowSum (mulf st.ka (laneW st.mp))) (ix2 r 0)) (rowSum (mulf st.sp (laneW st.mp)) (ix2 r 0))
    - lseC st.mp st.sp (ix2 r 0) + lseC st.mq st.sq (ix2 r 0) = _
  rw [inNat_at, hk, ln2_mul_log2e, rowSum_one (fun l => (I l).mp) (fun l => (I l).sp), lseC_eq (fun l => (I l).mp) (fun l => (I l).sp),
    lseC_eq (fun l => (I l).mq) (fun l => (I l).sq)]
  rfl

end Cert.Proof.K
-- ==== Proof.KFold.lean ====
module
public import proofs.«01_k».proof.Proof.KPointA
public import proofs.«01_k».proof.Proof.KPointB
public import proofs.«01_k».proof.Proof.KPointC
public import proofs.«01_k».proof.Proof.KQuant
public import proofs.«01_k».proof.Proof.KEnd
set_option maxRecDepth 16384
@[expose] public section
noncomputable section
namespace Cert.Proof.K
open Idealize Idealize.ShloMosaic Idealize.ShloMosaic.TcCoe
open Cert.KernelIdeal Cert.KernelIdeal.Gen Cert.KernelIdeal.Value

/-! # The kernel's results as functions of its arguments

The grid's fold: after step `n` the codes, the scales and what the steps read are those of the first step, and the
running vectors hold what the first `12 (n + 1)` logits of each lane give. -/

variable (m : (ℓ : Loc nD τ sig) → Buf (Elt Ideal) ℓ) (c : Dev nD)

/-- What the rows' logits are made of. -/
def tab : Tab where
  code r k := xcode (m ((c : Thread nD τ).loc main_arg0)) (rb r) (rs r) k
  scale r := xscale (m ((c : Thread nD τ).loc main_arg0)) (rb r) (rs r)
  xr r k := m ((c : Thread nD τ).loc main_arg1) (ix3 (rb r) (rs r) k)
  tgt r := m ((c : Thread nD τ).loc main_arg7) (ix2 (rb r) (rs r))
  wp := m ((c : Thread nD τ).loc main_arg2)
  ws v := m ((c : Thread nD τ).loc main_arg3) (ix1 v)
  wr := m ((c : Thread nD τ).loc main_arg4)
  s := m ((c : Thread nD τ).loc main_arg5)
  z := m ((c : Thread nD τ).loc main_arg6)

theorem row_self (r : Fin 256) : row (rb r) (rs r) = r := Fin.ext (by show r.val / 128 * 128 + r.val % 128 = r.val; omega)

/-- The rows are the precondition's. -/
abbrev Rows : Prop := ∀ b s, Normal (m ((c : Thread nD τ).loc main_arg0)) b s

variable {m c}

section
variable (t : Fin cfg0.N) (ht : t.val < 99) (r : Fin 256) (k : Fin 1536) (l : Fin 128) (a : Fin 1536) (g : Fin 12) (j : Fin 768)

theorem pay58_at (x : Vec Ideal S256x1536 .bf16) : k0_pay58 x = x := by unfold k0_pay58; rw [shapeCast_self]
theorem pay56_at (x : Vec Ideal S12x1536 .f32) (i) : k0_pay56 x i = x i := by unfold k0_pay56; rw [shapeCast_self, shapeCast_self]; rfl
theorem pay57_at (x : Vec Ideal S12x1536 .i8) (i) : k0_pay57 (F := Ideal) x i = u8v (x i) := by unfold k0_pay57; rw [shapeCast_self, shapeCast_self]; rfl

theorem tab_xr : (tab m c).xr r k = m ((c : Thread nD τ).loc main_arg1) (ix3 (rb r) (rs r) k) := rfl
theorem tab_wp : (tab m c).wp = m ((c : Thread nD τ).loc main_arg2) := rfl
theorem tab_ws (v) : (tab m c).ws v = m ((c : Thread nD τ).loc main_arg3) (ix1 v) := rfl
theorem tab_wr : (tab m c).wr = m ((c : Thread nD τ).loc main_arg4) := rfl
theorem tab_s : (tab m c).s = m ((c : Thread nD τ).loc main_arg5) := rfl
theorem tab_z : (tab m c).z = m ((c : Thread nD τ).loc main_arg6) := rfl

theorem tab_code (H : Rows m c) : xcA (m ((c : Thread nD τ).loc main_arg0)) (ix2 r k) = (tab m c).code r k := by
  have h := xcA_at (H (rb r) (rs r)) k
  rw [row_self] at h; exact h
theorem tab_coef (H : Rows m c) : coefA (m ((c : Thread nD τ).loc main_arg0)) (ix2 r l) = (tab m c).scale r * log2e := by
  have h := coefA_at (H (rb r) (rs r)) l
  rw [row_self] at h; exact h
theorem tab_tgt : tgtA (m ((c : Thread nD τ).loc main_arg7)) (ix2 r l) = (tab m c).tgt r := by
  have h := tgtA_at (m ((c : Thread nD τ).loc main_arg7)) (rb r) (rs r) l
  rw [row_self] at h; exact h

theorem in_i : BitVec.ofNat 32 ((grid0.coords t) 0).val = BitVec.ofNat 32 t.val := by rw [coord]
theorem in_xr : k0_pay58 (F := Ideal) (iblk m c 1 t) (ix2 r k) = (tab m c).xr r k := by
  rw [pay58_at, tab_xr]; exact blk1 m c t r k
theorem in_wp : iblk m c 2 t (ix2 a k) = (tab m c).wp (ix2 ⟨1536 * t.val + a.val, by omega⟩ k) := by
  rw [tab_wp]; exact blk2 m c t ht a k
theorem in_ws : iblk m c 3 t (ix2 0 a) = (tab m c).ws ⟨1536 * t.val + a.val, by omega⟩ := by
  rw [tab_ws]; exact blk3 m c t ht a
theorem in_wr : iblk m c 4 t (ix2 a j) = (tab m c).wr (ix2 ⟨1536 * t.val + a.val, by omega⟩ j) := by
  rw [tab_wr]; exact blk4 m c t ht a j
theorem in_s : k0_pay56 (F := Ideal) (iblk m c 5 t) (ix2 g a) = (tab m c).s (ix2 ⟨1536 * t.val + a.val, by omega⟩ g) := by
  rw [pay56_at, tab_s]; exact blk5 m c t ht g a
theorem in_z : k0_pay57 (F := Ideal) (iblk m c 6 t) (ix2 g a) = u8v ((tab m c).z (ix2 ⟨1536 * t.val + a.val, by omega⟩ g)) := by
  rw [pay57_at, tab_z]; exact congrArg u8v (blk6 m c t ht g a)
end

/-- The blocks that point `t` reads are the arguments' own entries. -/
theorem blocks (H : Rows m c) (t : Fin cfg0.N) (ht : t.val < 99) :
    Blocks (tab m c) t.val ht (BitVec.ofNat 32 ((grid0.coords t) 0).val) (k0_pay58 (iblk m c 1 t)) (xcA (m ((c : Thread nD τ).loc main_arg0)))
      (coefA (m ((c : Thread nD τ).loc main_arg0))) (tgtA (m ((c : Thread nD τ).loc main_arg7))) (iblk m c 2 t) (iblk m c 3 t) (iblk m c 4 t)
      (k0_pay56 (iblk m c 5 t)) (k0_pay57 (iblk m c 6 t)) :=
  ⟨in_i t, in_xr t, fun r k => tab_code r k H, fun r l => tab_coef r l H, tab_tgt, fun a k => in_wp t ht k a, fun a => in_ws t ht a,
    fun a j => in_wr t ht a j, fun g a => in_s t ht a g, fun g a => in_z t ht a g⟩

/-- What the scratch arrays hold once `n + 1` steps are done. -/
structure Carry (m : (ℓ : Loc nD τ sig) → Buf (Elt Ideal) ℓ) (c : Dev nD) (n : ℕ) (acc : Acc) : Prop where
  codes : codesOf acc = codesA (m ((c : Thread nD τ).loc main_arg0))
  scales : scalesOf acc = scalesA (m ((c : Thread nD τ).loc main_arg0))
  xc : xcOf acc = xcA (m ((c : Thread nD τ).loc main_arg0))
  coef : coefOf acc = coefA (m ((c : Thread nD τ).loc main_arg0))
  tgt : tgtOf acc = tgtA (m ((c : Thread nD τ).loc main_arg7))
  st : ∀ r l, Inv (lane ((tab m c).p r) l) (lane ((tab m c).q r) l) (laneHit ((tab m c).tgt r) l) (12 * (n + 1)) (stOf acc) r l

/-- The first step sets the codes, the scales and the running vectors. -/
theorem carry_first (H : Rows m c) (t : Fin cfg0.N) (acc : Acc) (h : t.val = 0) : Carry m c 0 (stAt0 m c t.val t.isLt acc) := by
  have h0 : t.val % 99 = 0 := by omega
  have h1 : ¬ t.val % 99 = 98 := by omega
  refine ⟨?_, ?_, ?_, ?_, ?_, fun r l => ?_⟩
  · rw [first_codes m c t acc h0 h1, blk0]
  · rw [first_scales m c t acc h0 h1, blk0]
  · rw [first_xc m c t acc h0 h1, blk0]
  · rw [first_coef m c t acc h0 h1, blk0]
  · rw [first_tgt m c t acc h0 h1, blk7]
  · rw [first_st m c t acc h0 h1, blk0, blk7]
    have I := stA_at (lane ((tab m c).p r) l) (lane ((tab m c).q r) l) (laneHit ((tab m c).tgt r) l) r l
    have S := step_at (blocks H t (by omega)) (st := stA) (r := r) (l := l) (by rw [h]; exact I)
    rw [h] at S; exact S

/-- The step's running vectors. -/
theorem step_inv (H : Rows m c) {n : ℕ} (t : Fin cfg0.N) {acc : Acc} (C : Carry m c n acc) (h : t.val = n + 1) (hn : n + 1 < 99) (r l) :
    Inv (lane ((tab m c).p r) l) (lane ((tab m c).q r) l) (laneHit ((tab m c).tgt r) l) (12 * (n + 1 + 1))
      (stepAt m c t (xcOf acc) (coefOf acc) (tgtOf acc) (stOf acc)) r l := by
  rw [C.xc, C.coef, C.tgt]
  have S := step_at (blocks H t (by omega)) (st := stOf acc) (r := r) (l := l) (by rw [h]; exact C.st r l)
  rw [h] at S; exact S

/-- A later step keeps the codes and the scales and goes on with the running vectors. -/
theorem carry_next (H : Rows m c) {n : ℕ} (t : Fin cfg0.N) {acc : Acc} (C : Carry m c n acc) (h : t.val = n + 1) (hn : n + 1 < 98) :
    Carry m c (n + 1) (stAt0 m c t.val t.isLt acc) := by
  have h0 : ¬ t.val % 99 = 0 := by omega
  have h1 : ¬ t.val % 99 = 98 := by omega
  refine ⟨?_, ?_, ?_, ?_, ?_, fun r l => ?_⟩
  · rw [next_codes m c t acc h0 h1, C.codes]
  · rw [next_scales m c t acc h0 h1, C.scales]
  · rw [next_xc m c t acc h0 h1, C.xc]
  · rw [next_coef m c t acc h0 h1, C.coef]
  · rw [next_tgt m c t acc h0 h1, C.tgt]
  · rw [next_st m c t acc h0 h1]
    exact step_inv H t C h (by omega) r l

/-- What every step but the last leaves. -/
theorem carry (H : Rows m c) : ∀ (n : ℕ) (h : 0 + n < cfg0.N), n < 98 →
    Carry m c n (Pipeline.accAt (fun n h => stAt0 m c n h junk0) (stAt0 m c) 0 n h)
  | 0, h, _ => by
    rw [Pipeline.accAt_zero]
    exact carry_first H ⟨0, h⟩ junk0 rfl
  | n + 1, h, hn => by
    rw [Pipeline.accAt_succ]
    exact carry_next H ⟨0 + (n + 1), h⟩ (carry H n (Nat.lt_of_succ_lt h) (by omega)) (Nat.zero_add _) hn

/-- The last point. -/
def lastPt : Fin cfg0.N := ⟨0 + 98, lt_of_lt_of_eq (by decide) N_0.symm⟩

theorem last0 : ¬ lastPt.val % 99 = 0 := by show ¬ (0 + 98) % 99 = 0; decide
theorem last1 : lastPt.val % 99 = 98 := by show (0 + 98) % 99 = 98; decide

/-- What the fold leaves before the last step. -/
def acc97 (m : (ℓ : Loc nD τ sig) → Buf (Elt Ideal) ℓ) (c : Dev nD) : Acc :=
  Pipeline.accAt (fun n h => stAt0 m c n h junk0) (stAt0 m c) 0 97 (lt_of_lt_of_eq (by decide) N_0.symm)

/-- The fold's end is the last step's work on what the steps before it left. -/
theorem accAt98 (h : 0 + 98 < cfg0.N) : Pipeline.accAt (fun n h => stAt0 m c n h junk0) (stAt0 m c) 0 98 h
    = stAt0 m c lastPt.val lastPt.isLt (acc97 m c) :=
  Pipeline.accAt_succ (fun n h => stAt0 m c n h junk0) (stAt0 m c) 0 97 h

theorem carry97 (H : Rows m c) : Carry m c 97 (acc97 m c) := carry H 97 _ (by decide)

/-- The running vectors at the end hold what all logits of each lane give. -/
theorem final_inv (H : Rows m c) (r l) :
    Inv (lane ((tab m c).p r) l) (lane ((tab m c).q r) l) (laneHit ((tab m c).tgt r) l) 1188
      (stepAt m c lastPt (xcOf (acc97 m c)) (coefOf (acc97 m c)) (tgtOf (acc97 m c)) (stOf (acc97 m c))) r l :=
  step_inv H lastPt (carry97 H) rfl (by decide) r l

theorem tgt_row (b : Fin 2) (s : Fin 128) : (tab m c).tgt (row b s) = m ((c : Thread nD τ).loc main_arg7) (ix2 b s) := by
  show m ((c : Thread nD τ).loc main_arg7) (ix2 (rb (row b s)) (rs (row b s))) = _
  rw [rb_row, rs_row]

/-- The first result: the policy's log-probability of the target. -/
theorem G8_at (H : Rows m c) (b : Fin 2) (s : Fin 128) :
    G8 m c (ix2 b s) = rlogp ((tab m c).p (row b s)) (m ((c : Thread nD τ).loc main_arg7) (ix2 b s)) := by
  rw [G8_last, accAt98]
  refine (congrFun (last_lp m c lastPt (acc97 m c) last0 last1) (ix2 b s)).trans ?_
  rw [outLp, outC_at, ← tgt_row (m := m) (c := c) b s]
  exact lpC_eq (fun l => (final_inv H (row b s) l).mp) (fun l => (final_inv H (row b s) l).sp) (fun l => (final_inv H (row b s) l).tp)

/-- The second result: the reference model's log-probability of the target. -/
theorem G9_at (H : Rows m c) (b : Fin 2) (s : Fin 128) :
    G9 m c (ix2 b s) = rlogp ((tab m c).q (row b s)) (m ((c : Thread nD τ).loc main_arg7) (ix2 b s)) := by
  rw [G9_last, accAt98]
  refine (congrFun (last_lq m c lastPt (acc97 m c) last0 last1) (ix2 b s)).trans ?_
  rw [outLq, outC_at, ← tgt_row (m := m) (c := c) b s]
  exact lpC_eq (fun l => (final_inv H (row b s) l).mq) (fun l => (final_inv H (row b s) l).sq) (fun l => (final_inv H (row b s) l).tq)

/-- The third result: the divergence of the policy from the reference model. -/
theorem G10_at (H : Rows m c) (b : Fin 2) (s : Fin 128) :
    G10 m c (ix2 b s) = rkl ((tab m c).p (row b s)) ((tab m c).q (row b s)) := by
  rw [G10_last, accAt98]
  refine (congrFun (last_kl m c lastPt (acc97 m c) last0 last1) (ix2 b s)).trans ?_
  rw [outKl, outC_at]
  exact klC_eq (fun l => final_inv H (row b s) l)

/-- The fourth result: the codes of the tokens. -/
theorem G11_at (H : Rows m c) (b : Fin 2) (s : Fin 128) (k : Fin 1536) :
    G11 m c (ix3 b s k) = xcode (m ((c : Thread nD τ).loc main_arg0)) b s k := by
  rw [G11_last, accAt98]
  refine (congrFun (last_codes m c lastPt (acc97 m c) last0 last1) (ix3 b s k)).trans ?_
  rw [(carry97 H).codes, codesA_at (H b s)]

/-- The fifth result: the scales of the tokens. -/
theorem G12_at (H : Rows m c) (b : Fin 2) (s : Fin 128) :
    G12 m c (ix2 b s) = xscale (m ((c : Thread nD τ).loc main_arg0)) b s := by
  rw [G12_last, accAt98]
  refine (congrFun (last_scales m c lastPt (acc97 m c) last0 last1) (ix2 b s)).trans ?_
  rw [(carry97 H).scales, scalesA_at (H b s)]

end Cert.Proof.K
-- ==== Proof.KPre.lean ====
module
public import proofs.«01_k».proof.Defs
public import proofs.«01_k».proof.Proof.KQuant
public import Idealize.ShloMosaic.Lib.Pointwise
set_option maxRecDepth 16384
@[expose] public section
noncomputable section
namespace Cert.Proof
open Idealize Idealize.ShloMosaic Idealize.ShloMosaic.TcCoe

/-! # What the precondition says of a row -/

/-- The side conditions that the precondition's operations take. -/
theorem preFacts : Cert.Pre_rows_normal.Facts where
  bitsLt_bf16_f32 := by decide
  reducesTo_S2x128x1536_S2x128_d2 := by decide
  h_S_ := by decide
  bcast_S_S2x128 := by decide

/-- The precondition's constants. -/
theorem bits_min : Ideal.ofBits .f32 0x00800000#32 = (((2 : ℝ) ^ (-126 : ℤ) : ℝ) : EReal) := by
  simp [Ideal.ofBits, Ideal.ieee]
  rw [← EReal.coe_mul]; congr 1; norm_num
theorem bits_big : Ideal.ofBits .f32 0x7F7F0000#32 = (((255 : ℝ) * 2 ^ 120 : ℝ) : EReal) := by
  simp [Ideal.ofBits, Ideal.ieee]
  norm_cast
theorem bits_448 : c448 = (((9586981 : ℝ) * (2 ^ 32)⁻¹ : ℝ) : EReal) := by
  simp [c448, Ideal.ofBits, Ideal.ieee]
theorem big_448 : Ideal.ofBits .f32 0x7F7F0000#32 * c448 < (((2 : ℝ) ^ (120 : ℤ) : ℝ) : EReal) := by
  rw [bits_big, bits_448, ← EReal.coe_mul, EReal.coe_lt_coe_iff]
  norm_num

/-- The precondition's one bit, as a statement. -/
theorem one_bit : ∀ p q r : Bool, IntOp.ori (BitVec.ofBool p) (IntOp.andi (BitVec.ofBool q) (BitVec.ofBool r)) = 1#1 → p = true ∨ (q = true ∧ r = true) := by
  decide

variable [Cert.Pre_rows_normal.Facts]

/-- Where the precondition holds, every row is zero or has a normal ratio. -/
theorem normal_of_pre (a0 : FVec Ideal Cert.Pre_rows_normal.S2x128x1536 .bf16) (a1 a2 a3 a4 a5 a6 a7)
    (h : Cert.Pre_rows_normal.fn (F := Ideal) a0 a1 a2 a3 a4 a5 a6 a7 = fun _ => 1#1) (b : Fin 2) (s : Fin 128) :
    K.Normal a0 b s := by
  have h' := congrFun h (ix2 b s)
  pointwise [Cert.Pre_rows_normal.fn] at h'
  simp only [Ref.fold_max_sup] at h'
  obtain h0 | ⟨h1, h2⟩ := one_bit _ _ _ h'
  · exact Or.inl (of_decide_eq_true h0)
  · refine Or.inr ⟨bits_min ▸ of_decide_eq_true h1, lt_of_le_of_lt ?_ big_448⟩
    exact mul_le_mul_of_nonneg_right (of_decide_eq_true h2 : amax a0 b s ≤ _) (by rw [bits_448]; exact EReal.coe_nonneg.mpr (by positivity))

end Cert.Proof
-- ==== Proof.RefRead.lean ====
module

public import proofs.«01_k».proof.Proof.RefLogits

/-! # The reference's stored values, read at an index -/

@[expose] public section

noncomputable section

namespace Cert.Proof.Ref
open Idealize Idealize.ShloMosaic Idealize.ShloMosaic.TcCoe Idealize.SL.Sem
open Cert.ReferenceIdeal Cert.ReferenceIdeal.Gen

set_option maxRecDepth 16384

theorem pay14_at (z : FVec Ideal S256x152064 .f32) (r : Fin 256) : k0_pay14 z (ix1 r) = rmax fun v => z (ix2 r v) := by
  pointwise [k0_pay14]
  exact fold_max_sup _

theorem pay15_at (z : Vec Ideal S152064x12 .i8) (s : Vec Ideal S152064x12 .f32) (wr : Vec Ideal S152064x768 .i8)
    (xe xo : Vec Ideal S256x768 .bf16) (r : Fin 256) :
    k0_pay15 (k0_pay12 z) s wr xe xo (ix1 r) = rmax fun v => zref xe xo wr s z r v := by
  pointwise [k0_pay15]
  simp only [fold_max_sup, pay13_at]
  rfl

theorem pay16_at (z : FVec Ideal S256x152064 .f32) (r : Fin 256) (v : Fin 152064) :
    k0_pay16 z (ix2 r v) = Ideal.exp (z (ix2 r v) - rmax fun v => z (ix2 r v)) := by
  pointwise [k0_pay16]
  rw [pay14_at]

theorem pay17_at (z : FVec Ideal S256x152064 .f32) (r : Fin 256) : k0_pay17 z (ix1 r) = rsum fun v => z (ix2 r v) := by
  pointwise [k0_pay17]
  simp only [pay16_at]
  rfl

theorem pay18_at (z : Vec Ideal S152064x12 .i8) (s : Vec Ideal S152064x12 .f32) (wr : Vec Ideal S152064x768 .i8)
    (xe xo : Vec Ideal S256x768 .bf16) (r : Fin 256) (v : Fin 152064) :
    k0_pay18 (k0_pay12 z) s wr xe xo (ix2 r v)
      = Ideal.exp (zref xe xo wr s z r v - rmax fun v => zref xe xo wr s z r v) := by
  pointwise [k0_pay18]
  rw [pay15_at, pay13_at]

theorem pay1_at (t : Vec Ideal S2x128 .i32) (r : Fin 256) (v : Fin 152064) :
    k0_pay1 (F := Ideal) t (ix2 r v) = BitVec.ofBool (decide (t (ix2 (rb r) (rs r)) = BitVec.ofNat 32 v.val)) := by
  pointwise [k0_pay1]
  rfl

theorem select_at (c : Bool) (a b : EReal) : Scalar.select (α := EReal) (BitVec.ofBool c) a b = if c then a else b := by
  cases c <;> rfl

/-- The log-probability of a row whose logits, largest and sum are given. -/
theorem pay4_at (z : FVec Ideal S256x152064 .f32) (m e : FVec Ideal S256 .f32) (t : Vec Ideal S2x128 .i32) (b : Fin 2) (s : Fin 128)
    (hm : ∀ r, m (ix1 r) = rmax fun v => z (ix2 r v)) (he : ∀ r, e (ix1 r) = rsum fun v => z (ix2 r v)) :
    k0_pay4 z m e t (ix2 b s) = rlogp (fun v => z (ix2 (row b s) v)) (t (ix2 b s)) := by
  pointwise [k0_pay4, k0_pay2]
  rw [hm, he]
  simp only [pay1_at]
  change ∑ x, Scalar.select (α := EReal) (BitVec.ofBool (decide (t (ix2 (rb (row b s)) (rs (row b s))) = _))) (z (ix2 (row b s) x)) 0 - _ = _
  simp only [select_at, rb_row, rs_row, decide_eq_true_eq]
  rfl

/-- The log-probability of a row whose logits, largest and exponentials are given. -/
theorem pay5_at (z : FVec Ideal S256x152064 .f32) (m : FVec Ideal S256 .f32) (e : FVec Ideal S256x152064 .f32) (t : Vec Ideal S2x128 .i32)
    (b : Fin 2) (s : Fin 128)
    (hm : ∀ r, m (ix1 r) = rmax fun v => z (ix2 r v)) (he : ∀ r v, e (ix2 r v) = Ideal.exp (z (ix2 r v) - rmax fun v => z (ix2 r v))) :
    k0_pay5 z m e t (ix2 b s) = rlogp (fun v => z (ix2 (row b s) v)) (t (ix2 b s)) := by
  pointwise [k0_pay5, k0_pay3]
  rw [hm]
  simp only [he, pay1_at]
  change ∑ x, Scalar.select (α := EReal) (BitVec.ofBool (decide (t (ix2 (rb (row b s)) (rs (row b s))) = _))) (z (ix2 (row b s) x)) 0 - _ = _
  simp only [select_at, rb_row, rs_row, decide_eq_true_eq]
  rfl

/-- The divergence of a row from the two models' logits, largest and exponentials. -/
theorem pay6_at (p q ep eq : FVec Ideal S256x152064 .f32) (mp mq sp : FVec Ideal S256 .f32) (b : Fin 2) (s : Fin 128)
    (hmp : ∀ r, mp (ix1 r) = rmax fun v => p (ix2 r v)) (hmq : ∀ r, mq (ix1 r) = rmax fun v => q (ix2 r v))
    (hep : ∀ r v, ep (ix2 r v) = Ideal.exp (p (ix2 r v) - rmax fun v => p (ix2 r v)))
    (heq : ∀ r v, eq (ix2 r v) = Ideal.exp (q (ix2 r v) - rmax fun v => q (ix2 r v)))
    (hsp : ∀ r, sp (ix1 r) = rsum fun v => p (ix2 r v)) :
    k0_pay6 p q mp mq ep sp eq (ix2 b s)
      = rkl (fun v => p (ix2 (row b s) v)) (fun v => q (ix2 (row b s) v)) := by
  pointwise [k0_pay6, k0_pay3, k0_pay2]
  rw [hmp, hmq, hsp]
  simp only [hep, heq]
  rfl

end Cert.Proof.Ref
-- ==== Proof.RefFinal.lean ====
module
public import proofs.«01_k».proof.Proof.RefRead
public import proofs.«01_k».proof.Proof.Gen.ReferenceIdeal.Value
public import Idealize.ShloMosaic.Lib.StableHlo.ReadAt
public import Idealize.ShloMosaic.Lib.Pipeline.ValueKit.Acc
set_option maxRecDepth 16384
@[expose] public section
noncomputable section
namespace Cert.Proof.Ref
open Idealize Idealize.ShloMosaic Idealize.ShloMosaic.TcCoe Idealize.SL.Sem
open Cert.ReferenceIdeal Cert.ReferenceIdeal.Gen Cert.ReferenceIdeal.Value

/-! # The reference's results as functions of its arguments -/

section
variable (x0 : Vec Ideal S2x128x1536 .bf16) (x1 : Vec Ideal S256x768 .bf16) (x2 : Vec Ideal S256x768 .bf16) (x3 : Vec Ideal S152064x1536 .fp8e4m3)
  (x4 : Vec Ideal S152064 .f32) (x5 : Vec Ideal S152064x768 .i8) (x6 : Vec Ideal S152064x12 .f32) (x7 : Vec Ideal S152064x12 .i8)
  (x8 : Vec Ideal S2x128 .i32)

theorem z1 : (![0] : Fin 1 → ℕ) = fun _ => 0 := by funext a; fin_cases a; rfl
theorem z2 : (![0, 0] : Fin 2 → ℕ) = fun _ => 0 := by funext a; fin_cases a <;> rfl
theorem z3 : (![0, 0, 0] : Fin 3 → ℕ) = fun _ => 0 := by funext a; fin_cases a <;> rfl

theorem pay19_at (r : Fin 256) (v : Fin 152064) : k0_pay19 x0 x1 x2 x3 x4 x5 x6 x7 x8 (ix2 r v) = zpol x0 x3 x4 r v := by
  unfold k0_pay19
  rw [View.ld_unit_zero (S := S2x128x1536) z3, View.ld_unit_zero (S := S152064x1536) z2, View.ld_unit_zero (S := S152064) z1]
  exact pay11_at x0 x3 x4 r v

theorem pay21_at (r : Fin 256) (v : Fin 152064) : k0_pay21 x0 x1 x2 x3 x4 x5 x6 x7 x8 (ix2 r v) = zref x1 x2 x5 x6 x7 r v := by
  unfold k0_pay21 k0_pay20
  rw [View.ld_unit_zero (S := S152064x12) z2, View.ld_unit_zero (S := S152064x12) z2, View.ld_unit_zero (S := S152064x768) z2,
    View.ld_unit_zero (S := S256x768) z2, View.ld_unit_zero (S := S256x768) z2]
  exact pay13_at x7 x6 x5 x1 x2 r v

theorem pay22_at (r : Fin 256) : k0_pay22 x0 x1 x2 x3 x4 x5 x6 x7 x8 (ix1 r) = rmax fun v => k0_pay19 x0 x1 x2 x3 x4 x5 x6 x7 x8 (ix2 r v) :=
  pay14_at _ r

theorem pay23_at (r : Fin 256) : k0_pay23 x0 x1 x2 x3 x4 x5 x6 x7 x8 (ix1 r) = rmax fun v => k0_pay21 x0 x1 x2 x3 x4 x5 x6 x7 x8 (ix2 r v) := by
  simp only [pay21_at]
  unfold k0_pay23 k0_pay20
  rw [View.ld_unit_zero (S := S152064x12) z2, View.ld_unit_zero (S := S152064x12) z2, View.ld_unit_zero (S := S152064x768) z2,
    View.ld_unit_zero (S := S256x768) z2, View.ld_unit_zero (S := S256x768) z2]
  exact pay15_at x7 x6 x5 x1 x2 r

theorem pay24_at (r : Fin 256) : k0_pay24 x0 x1 x2 x3 x4 x5 x6 x7 x8 (ix1 r) = rsum fun v => k0_pay19 x0 x1 x2 x3 x4 x5 x6 x7 x8 (ix2 r v) :=
  pay17_at _ r

theorem pay25_at (r : Fin 256) (v : Fin 152064) : k0_pay25 x0 x1 x2 x3 x4 x5 x6 x7 x8 (ix2 r v)
    = Ideal.exp (k0_pay21 x0 x1 x2 x3 x4 x5 x6 x7 x8 (ix2 r v) - rmax fun v => k0_pay21 x0 x1 x2 x3 x4 x5 x6 x7 x8 (ix2 r v)) := by
  simp only [pay21_at]
  unfold k0_pay25 k0_pay20
  rw [View.ld_unit_zero (S := S152064x12) z2, View.ld_unit_zero (S := S152064x12) z2, View.ld_unit_zero (S := S152064x768) z2,
    View.ld_unit_zero (S := S256x768) z2, View.ld_unit_zero (S := S256x768) z2]
  exact pay18_at x7 x6 x5 x1 x2 r v

theorem out9_at (b : Fin 2) (s : Fin 128) : out0_9 x0 x1 x2 x3 x4 x5 x6 x7 x8 (ix2 b s)
    = rlogp (fun v => zpol x0 x3 x4 (row b s) v) (x8 (ix2 b s)) := by
  unfold out0_9
  rw [View.canon_unit_zero (S := S2x128) z2, View.ld_unit_zero (S := S2x128) z2,
    pay4_at _ _ _ _ b s (pay22_at x0 x1 x2 x3 x4 x5 x6 x7 x8) (pay24_at x0 x1 x2 x3 x4 x5 x6 x7 x8)]
  simp only [pay19_at]

theorem out10_at (b : Fin 2) (s : Fin 128) : out0_10 x0 x1 x2 x3 x4 x5 x6 x7 x8 (ix2 b s)
    = rlogp (fun v => zref x1 x2 x5 x6 x7 (row b s) v) (x8 (ix2 b s)) := by
  unfold out0_10
  rw [View.canon_unit_zero (S := S2x128) z2, View.ld_unit_zero (S := S2x128) z2,
    pay5_at _ _ _ _ b s (pay23_at x0 x1 x2 x3 x4 x5 x6 x7 x8) (pay25_at x0 x1 x2 x3 x4 x5 x6 x7 x8)]
  simp only [pay21_at]

theorem out11_at (b : Fin 2) (s : Fin 128) : out0_11 x0 x1 x2 x3 x4 x5 x6 x7 x8 (ix2 b s)
    = rkl (fun v => zpol x0 x3 x4 (row b s) v) (fun v => zref x1 x2 x5 x6 x7 (row b s) v) := by
  unfold out0_11
  rw [View.canon_unit_zero (S := S2x128) z2,
    pay6_at _ _ _ _ _ _ _ b s (pay22_at x0 x1 x2 x3 x4 x5 x6 x7 x8) (pay23_at x0 x1 x2 x3 x4 x5 x6 x7 x8)
      (fun r v => pay16_at _ r v) (pay25_at x0 x1 x2 x3 x4 x5 x6 x7 x8) (pay24_at x0 x1 x2 x3 x4 x5 x6 x7 x8)]
  simp only [pay19_at, pay21_at]

theorem out12_at (b : Fin 2) (s : Fin 128) (k : Fin 1536) : out0_12 x0 x1 x2 x3 x4 x5 x6 x7 x8 (ix3 b s k) = xcode x0 b s k := by
  unfold out0_12
  rw [View.canon_unit_zero (S := S2x128x1536) z3, View.ld_unit_zero (S := S2x128x1536) z3]
  exact pay9_at x0 b s k

theorem out13_at (b : Fin 2) (s : Fin 128) : out0_13 x0 x1 x2 x3 x4 x5 x6 x7 x8 (ix2 b s) = xscale x0 b s := by
  unfold out0_13
  rw [View.canon_unit_zero (S := S2x128) z2, View.ld_unit_zero (S := S2x128x1536) z3]
  exact pay10_at x0 b s
end

variable (m : (ℓ : Loc nD τ sig) → Buf (Elt Ideal) ℓ) (c : Dev nD)

/-- The even columns, as the host takes them. -/
theorem V_even (r : Fin 256) (j : Fin 768) : V m c main_v1 (ix2 r j)
    = m ((c : Thread nD τ).loc main_arg1) (ix3 (rb r) (rs r) ⟨2 * j.val, by omega⟩) := by
  unfold V hostOps0
  after_reads_at
  rfl

/-- The odd columns, as the host takes them. -/
theorem V_odd (r : Fin 256) (j : Fin 768) : V m c main_v2 (ix2 r j)
    = m ((c : Thread nD τ).loc main_arg1) (ix3 (rb r) (rs r) ⟨2 * j.val + 1, by omega⟩) := by
  unfold V hostOps0
  after_reads_at
  exact congrArg (fun k => m ((c : Thread nD τ).loc main_arg1) (ix3 (rb r) (rs r) k)) (Fin.ext (Nat.add_comm 1 (2 * j.val)))

/-- A whole array's block starts at its first entry. -/
theorem whole_off (n i : ℕ) : 0 * n + 1 * i = i := by omega

theorem in0 (t : Fin cfg0.N) : iblk m c 0 t = V m c main_arg0 :=
  funext fun j => congrArg (V m c main_arg0) (funext fun a => Fin.ext (whole_off _ (j a).val))
theorem in1 (t : Fin cfg0.N) : iblk m c 1 t = V m c main_v1 :=
  funext fun j => congrArg (V m c main_v1) (funext fun a => Fin.ext (whole_off _ (j a).val))
theorem in2 (t : Fin cfg0.N) : iblk m c 2 t = V m c main_v2 :=
  funext fun j => congrArg (V m c main_v2) (funext fun a => Fin.ext (whole_off _ (j a).val))
theorem in3 (t : Fin cfg0.N) : iblk m c 3 t = V m c main_arg2 :=
  funext fun j => congrArg (V m c main_arg2) (funext fun a => Fin.ext (whole_off _ (j a).val))
theorem in4 (t : Fin cfg0.N) : iblk m c 4 t = V m c main_arg3 :=
  funext fun j => congrArg (V m c main_arg3) (funext fun a => Fin.ext (whole_off _ (j a).val))
theorem in5 (t : Fin cfg0.N) : iblk m c 5 t = V m c main_arg4 :=
  funext fun j => congrArg (V m c main_arg4) (funext fun a => Fin.ext (whole_off _ (j a).val))
theorem in6 (t : Fin cfg0.N) : iblk m c 6 t = V m c main_arg5 :=
  funext fun j => congrArg (V m c main_arg5) (funext fun a => Fin.ext (whole_off _ (j a).val))
theorem in7 (t : Fin cfg0.N) : iblk m c 7 t = V m c main_arg6 :=
  funext fun j => congrArg (V m c main_arg6) (funext fun a => Fin.ext (whole_off _ (j a).val))
theorem in8 (t : Fin cfg0.N) : iblk m c 8 t = V m c main_arg7 :=
  funext fun j => congrArg (V m c main_arg7) (funext fun a => Fin.ext (whole_off _ (j a).val))

theorem ins (t : Fin cfg0.N) {α : Type} (f : Vec Ideal S2x128x1536 .bf16 → Vec Ideal S256x768 .bf16 → Vec Ideal S256x768 .bf16 → Vec Ideal S152064x1536 .fp8e4m3
      → Vec Ideal S152064 .f32 → Vec Ideal S152064x768 .i8 → Vec Ideal S152064x12 .f32 → Vec Ideal S152064x12 .i8 → Vec Ideal S2x128 .i32 → α) :
    f (iblk m c 0 t) (iblk m c 1 t) (iblk m c 2 t) (iblk m c 3 t) (iblk m c 4 t) (iblk m c 5 t) (iblk m c 6 t) (iblk m c 7 t) (iblk m c 8 t)
      = f (m ((c : Thread nD τ).loc main_arg0)) (V m c main_v1) (V m c main_v2) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  rw [in0, in1, in2, in3, in4, in5, in6, in7, in8, V_main_arg0, V_main_arg2, V_main_arg3, V_main_arg4, V_main_arg5, V_main_arg6, V_main_arg7]

/-- The grid's one point. -/
def pt : Fin cfg0.N := ⟨0, by decide⟩

theorem res0 (b : Fin 2) (s : Fin 128) : (dats m 0 c).arrAt 9 cfg0.N (ix2 b s) = rlogp (fun v => zpol (m ((c : Thread nD τ).loc main_arg0))
    (m ((c : Thread nD τ).loc main_arg2)) (m ((c : Thread nD τ).loc main_arg3)) (row b s) v) (m ((c : Thread nD τ).loc main_arg7) (ix2 b s)) := by
  have h := ((blocks9 m c pt (by decide +kernel)).trans (flushed9 m c pt))
  rw [ins m c pt out0_9] at h
  refine (congrArg ((dats m 0 c).arrAt 9 cfg0.N) (funext fun a => Fin.ext (whole_off _ _).symm)).trans ((congrFun h (ix2 b s)).trans ?_)
  exact out9_at _ _ _ _ _ _ _ _ _ b s

theorem res1 (b : Fin 2) (s : Fin 128) : (dats m 0 c).arrAt 10 cfg0.N (ix2 b s) = rlogp (fun v => zref (V m c main_v1) (V m c main_v2)
    (m ((c : Thread nD τ).loc main_arg4)) (m ((c : Thread nD τ).loc main_arg5)) (m ((c : Thread nD τ).loc main_arg6)) (row b s) v)
    (m ((c : Thread nD τ).loc main_arg7) (ix2 b s)) := by
  have h := ((blocks10 m c pt (by decide +kernel)).trans (flushed10 m c pt))
  rw [ins m c pt out0_10] at h
  refine (congrArg ((dats m 0 c).arrAt 10 cfg0.N) (funext fun a => Fin.ext (whole_off _ _).symm)).trans ((congrFun h (ix2 b s)).trans ?_)
  exact out10_at _ _ _ _ _ _ _ _ _ b s

theorem res2 (b : Fin 2) (s : Fin 128) : (dats m 0 c).arrAt 11 cfg0.N (ix2 b s) = rkl (fun v => zpol (m ((c : Thread nD τ).loc main_arg0))
    (m ((c : Thread nD τ).loc main_arg2)) (m ((c : Thread nD τ).loc main_arg3)) (row b s) v) (fun v => zref (V m c main_v1) (V m c main_v2)
    (m ((c : Thread nD τ).loc main_arg4)) (m ((c : Thread nD τ).loc main_arg5)) (m ((c : Thread nD τ).loc main_arg6)) (row b s) v) := by
  have h := ((blocks11 m c pt (by decide +kernel)).trans (flushed11 m c pt))
  rw [ins m c pt out0_11] at h
  refine (congrArg ((dats m 0 c).arrAt 11 cfg0.N) (funext fun a => Fin.ext (whole_off _ _).symm)).trans ((congrFun h (ix2 b s)).trans ?_)
  exact out11_at _ _ _ _ _ _ _ _ _ b s

theorem res3 (b : Fin 2) (s : Fin 128) (k : Fin 1536) : (dats m 0 c).arrAt 12 cfg0.N (ix3 b s k)
    = xcode (m ((c : Thread nD τ).loc main_arg0)) b s k := by
  have h := ((blocks12 m c pt (by decide +kernel)).trans (flushed12 m c pt))
  rw [ins m c pt out0_12] at h
  refine (congrArg ((dats m 0 c).arrAt 12 cfg0.N) (funext fun a => Fin.ext (whole_off _ _).symm)).trans ((congrFun h (ix3 b s k)).trans ?_)
  exact out12_at _ _ _ _ _ _ _ _ _ b s k

theorem res4 (b : Fin 2) (s : Fin 128) : (dats m 0 c).arrAt 13 cfg0.N (ix2 b s) = xscale (m ((c : Thread nD τ).loc main_arg0)) b s := by
  have h := ((blocks13 m c pt (by decide +kernel)).trans (flushed13 m c pt))
  rw [ins m c pt out0_13] at h
  refine (congrArg ((dats m 0 c).arrAt 13 cfg0.N) (funext fun a => Fin.ext (whole_off _ _).symm)).trans ((congrFun h (ix2 b s)).trans ?_)
  exact out13_at _ _ _ _ _ _ _ _ _ b s

end Cert.Proof.Ref
-- ==== Proof.Agree.lean ====
module
public import proofs.«01_k».proof.Proof.KFold
public import proofs.«01_k».proof.Proof.KPre
public import proofs.«01_k».proof.Proof.RefFinal
set_option maxRecDepth 16384
@[expose] public section
noncomputable section
namespace Cert.Proof
open Idealize Idealize.ShloMosaic Idealize.ShloMosaic.TcCoe

/-! # The two programs' results agree -/

/-- Arrays of rank two are equal when they agree at all pairs of indices. -/
theorem ext2 {α : Type} {a b : ℕ} {f g : (⟨2, ![a, b]⟩ : Shape).Idx → α} (h : ∀ i j, f (ix2 i j) = g (ix2 i j)) : f = g := by
  funext i
  have e : i = ix2 (i 0) (i 1) := by funext k; fin_cases k <;> rfl
  rw [e]; exact h _ _

/-- Arrays of rank three are equal when they agree at all triples of indices. -/
theorem ext3 {α : Type} {a b d : ℕ} {f g : (⟨3, ![a, b, d]⟩ : Shape).Idx → α} (h : ∀ i j k, f (ix3 i j k) = g (ix3 i j k)) : f = g := by
  funext i
  have e : i = ix3 (i 0) (i 1) (i 2) := by funext k; fin_cases k <;> rfl
  rw [e]; exact h _ _ _

/-- The reference model's logit reads only its own row of the states. -/
theorem zref_congr {xe xo xe' xo' : (⟨2, ![256, 768]⟩ : Shape).Idx → EReal} {wr s z} {r : Fin 256} {v}
    (he : ∀ j, xe (ix2 r j) = xe' (ix2 r j)) (ho : ∀ j, xo (ix2 r j) = xo' (ix2 r j)) : zref xe xo wr s z r v = zref xe' xo' wr s z r v := by
  unfold zref; simp only [he, ho]

/-- The two memories hold the same arguments. -/
structure Same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- The policy's logits of a row are the same in both programs. -/
theorem same_p (E : Same m m' c) (r : Fin 256) : (fun v => zpol (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) r v) = (K.tab m c).p r := by
  rw [E.a0, E.a2, E.a3]; rfl

/-- The reference model's logits of a row are the same in both programs. -/
theorem same_q (E : Same m m' c) (r : Fin 256) :
    (fun v => zref (Cert.ReferenceIdeal.Gen.V m' c Cert.ReferenceIdeal.main_v1) (Cert.ReferenceIdeal.Gen.V m' c Cert.ReferenceIdeal.main_v2)
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) r v) = (K.tab m c).q r := by
  rw [E.a4, E.a5, E.a6]
  funext v
  exact zref_congr (fun j => (Ref.V_even m' c r j).trans (congrFun E.a1 _)) (fun j => (Ref.V_odd m' c r j).trans (congrFun E.a1 _))

/-- The first result (the policy's log-probability) is the same in both programs. -/
theorem agree0 (E : Same m m' c) (H : K.Rows m c) : (Cert.ReferenceIdeal.Gen.dats m' 0 c).arrAt 9 Cert.ReferenceIdeal.cfg0.N = Cert.KernelIdeal.Value.G8 m c :=
  ext2 fun b s => by
    refine (Ref.res0 m' c b s).trans ((K.G8_at H b s).trans ?_).symm
    rw [← same_p E, E.a7]

/-- The second result (the reference model's log-probability) is the same in both programs. -/
theorem agree1 (E : Same m m' c) (H : K.Rows m c) : (Cert.ReferenceIdeal.Gen.dats m' 0 c).arrAt 10 Cert.ReferenceIdeal.cfg0.N = Cert.KernelIdeal.Value.G9 m c :=
  ext2 fun b s => by
    refine (Ref.res1 m' c b s).trans ((K.G9_at H b s).trans ?_).symm
    rw [← same_q E, E.a7]

/-- The third result (the divergence) is the same in both programs. -/
theorem agree2 (E : Same m m' c) (H : K.Rows m c) : (Cert.ReferenceIdeal.Gen.dats m' 0 c).arrAt 11 Cert.ReferenceIdeal.cfg0.N = Cert.KernelIdeal.Value.G10 m c :=
  ext2 fun b s => by
    refine (Ref.res2 m' c b s).trans ((K.G10_at H b s).trans ?_).symm
    rw [← same_p E, ← same_q E]

/-- The fourth result (the codes) is the same in both programs. -/
theorem agree3 (E : Same m m' c) (H : K.Rows m c) : (Cert.ReferenceIdeal.Gen.dats m' 0 c).arrAt 12 Cert.ReferenceIdeal.cfg0.N = Cert.KernelIdeal.Value.G11 m c :=
  ext3 fun b s k => by
    refine (Ref.res3 m' c b s k).trans ((K.G11_at H b s k).trans ?_).symm
    rw [E.a0]

/-- The fifth result (the scales) is the same in both programs. -/
theorem agree4 (E : Same m m' c) (H : K.Rows m c) : (Cert.ReferenceIdeal.Gen.dats m' 0 c).arrAt 13 Cert.ReferenceIdeal.cfg0.N = Cert.KernelIdeal.Value.G12 m c :=
  ext2 fun b s => by
    refine (Ref.res4 m' c b s).trans ((K.G12_at H b s).trans ?_).symm
    rw [E.a0]

end Cert.Proof
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Value
public import proofs.«01_k».proof.Proof.Agree

@[expose] public section

open Idealize Idealize.ShloMosaic

/-- On rows that the precondition admits, the five results are the reference's. -/
theorem Cert.Proof.algebraic : Cert.algebraic_KernelIdeal_ReferenceIdeal_pre_rows_normal (hKernelIdeal := Cert.KernelIdeal.Gen.facts)
    (hReferenceIdeal := Cert.ReferenceIdeal.Gen.facts) (hPre_rows_normal := Cert.Proof.preFacts) := by
  intro m g m' g' hp ha
  have H : ∀ c, Cert.Proof.K.Rows m c := fun c b s => @Cert.Proof.normal_of_pre Cert.Proof.preFacts _ _ _ _ _ _ _ _ (hp c) b s
  have E : ∀ c, Cert.Proof.Same m m' c := fun c =>
    have ⟨h0, h1, h2, h3, h4, h5, h6, h7⟩ := ha c
    ⟨h0, h1, h2, h3, h4, h5, h6, h7⟩
  refine ⟨Cert.KernelIdeal.Value.G8 m, Cert.KernelIdeal.Value.G9 m, Cert.KernelIdeal.Value.G10 m, Cert.KernelIdeal.Value.G11 m,
    Cert.KernelIdeal.Value.G12 m, Cert.KernelIdeal.Value.run m g, ?_⟩
  refine (θ_run _ _ _).mono (fun r h c => ?_) (Cert.ReferenceIdeal.Value.run_blocks m' g')
  have ⟨h0, h1, h2, h3, h4, hk⟩ := h c
  exact ⟨h0.trans (Cert.Proof.agree0 (E c) (H c)), h1.trans (Cert.Proof.agree1 (E c) (H c)), h2.trans (Cert.Proof.agree2 (E c) (H c)),
    h3.trans (Cert.Proof.agree3 (E c) (H c)), h4.trans (Cert.Proof.agree4 (E c) (H c)), hk⟩

/-- The frames, the named constants and the five results. -/
theorem Cert.Proof.claim : Cert.Claim :=
  ⟨Cert.Kernel.Gen.facts, Cert.KernelIdeal.Gen.facts, Cert.ReferenceIdeal.Gen.facts, Cert.Proof.preFacts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    ⟨IdealRules.named_const.statement Cert.KernelIdeal.κ "log2e" .f32 0x3FB8AA3B#32 _ rfl,
      IdealRules.named_const.statement Cert.KernelIdeal.κ "ln2" .f32 0x3F317218#32 _ rfl⟩,
    Cert.Proof.algebraic⟩
